-- ==== Defs.lean ====
def Pre_Kernel [hPre_channels_in_range : Cert.Pre_channels_in_range.Facts] (m : (ℓ : Loc Cert.Kernel.nD Cert.Kernel.τ Cert.Kernel.sig) → Buf (Elt Bits) ℓ) : Prop :=
  ∀ c : Dev Cert.Kernel.nD,
    (Cert.Pre_channels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_channels_in_range : Cert.Pre_channels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_channels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_channels_in_range : Cert.Pre_channels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_channels_in_range : Cert.Pre_channels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_channels_in_range : Cert.Pre_channels_in_range.Facts) (hPre_in_range : Cert.Pre_in_range.Facts),
    quiescent_Kernel (hKernel := hKernel) (hPre_channels_in_range := hPre_channels_in_range)
    ∧ quiescent_KernelIdeal (hKernelIdeal := hKernelIdeal) (hPre_channels_in_range := hPre_channels_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_channels_in_range.lean ====
abbrev S4x96x224x224 : Shape := ⟨4, ![4, 96, 224, 224]⟩
abbrev S96x3x16 : Shape := ⟨3, ![96, 3, 16]⟩
abbrev S96x4 : Shape := ⟨2, ![96, 4]⟩
abbrev S_ : Shape := ⟨0, ![]⟩

class Facts : Prop where
  bcast_S_S96x4 : S_.BroadcastsInDim S96x4 (![] : Fin 0 → Fin S96x4.rank)
  reducesTo_S96x4_S_d0_1 : S96x4.ReducesTo [0, 1] S_
  h_S_ : 0 < S_.numel

variable [Facts]

def fn {F : FTy → Type} [FloatOps F] (main_arg0 : FVec F S4x96x224x224 .f32) (main_arg1 : FVec F S96x3x16 .f32) (main_arg2 : IVec S96x4 32) (main_arg3 : IVec S96x4 32) (main_arg4 : IVec S96x4 32) : IVec S_ 1 :=
  let main_c : IVec S_ 32 := constantI S_ 32 0#32
  let main_v0 : IVec S96x4 32 := broadcastInDim S96x4 ![] bcast_S_S96x4 main_c
  let main_v1 : IVec S96x4 1 := cmpi .sge main_arg2 main_v0
  let main_c_0 : IVec S_ 1 := constantI S_ 1 1#1
  let main_v2 : IVec S_ 1 := (fun x v => Host.reduce IntOp.andi x v reducesTo_S96x4_S_d0_1 h_S_) main_v1 main_c_0
  let main_c_1 : IVec S_ 32 := constantI S_ 32 96#32
  let main_v3 : IVec S96x4 32 := broadcastInDim S96x4 ![] bcast_S_S96x4 main_c_1
  let main_v4 : IVec S96x4 1 := cmpi .slt main_arg2 main_v3
  let main_c_2 : IVec S_ 1 := constantI S_ 1 1#1
  let main_v5 : IVec S_ 1 := (fun x v => Host.reduce IntOp.andi x v reducesTo_S96x4_S_d0_1 h_S_) main_v4 main_c_2
  let main_v6 : IVec S_ 1 := andi main_v2 main_v5
  main_v6
-- ==== Pre_in_range.lean ====
abbrev S4x96x224x224 : Shape := ⟨4, ![4, 96, 224, 224]⟩
abbrev S96x3x16 : Shape := ⟨3, ![96, 3, 16]⟩
abbrev S96x4 : Shape := ⟨2, ![96, 4]⟩
abbrev S_ : Shape := ⟨0, ![]⟩

class Facts : Prop where
  bcast_S_S96x4 : S_.BroadcastsInDim S96x4 (![] : Fin 0 → Fin S96x4.rank)
  reducesTo_S96x4_S_d0_1 : S96x4.ReducesTo [0, 1] S_
  h_S_ : 0 < S_.numel

variable [Facts]

def fn_part1 {F : FTy → Type} [FloatOps F] (main_arg4 : IVec S96x4 32) (main_v14 : IVec S_ 1) (main_c_7 : IVec S_ 32) : IVec S_ 1 :=
  let main_v15 : IVec S96x4 32 := broadcastInDim S96x4 ![] bcast_S_S96x4 main_c_7
  let main_v16 : IVec S96x4 1 := cmpi .sge main_arg4 main_v15
  let main_c_8 : IVec S_ 1 := constantI S_ 1 1#1
  let main_v17 : IVec S_ 1 := (fun x v => Host.reduce IntOp.andi x v reducesTo_S96x4_S_d0_1 h_S_) main_v16 main_c_8
  let main_v18 : IVec S_ 1 := andi main_v14 main_v17
  let main_c_9 : IVec S_ 32 := constantI S_ 32 3#32
  let main_v19 : IVec S96x4 32 := broadcastInDim S96x4 ![] bcast_S_S96x4 main_c_9
  let main_v20 : IVec S96x4 1 := cmpi .slt main_arg4 main_v19
  let main_c_10 : IVec S_ 1 := constantI S_ 1 1#1
  let main_v21 : IVec S_ 1 := (fun x v => Host.reduce IntOp.andi x v reducesTo_S96x4_S_d0_1 h_S_) main_v20 main_c_10
  let main_v22 : IVec S_ 1 := andi main_v18 main_v21
  main_v22

def fn {F : FTy → Type} [FloatOps F] (main_arg0 : FVec F S4x96x224x224 .f32) (main_arg1 : FVec F S96x3x16 .f32) (main_arg2 : IVec S96x4 32) (main_arg3 : IVec S96x4 32) (main_arg4 : IVec S96x4 32) : IVec S_ 1 :=
  let main_c : IVec S_ 32 := constantI S_ 32 0#32
  let main_v0 : IVec S96x4 32 := broadcastInDim S96x4 ![] bcast_S_S96x4 main_c
  let main_v1 : IVec S96x4 1 := cmpi .sge main_arg2 main_v0
  let main_c_0 : IVec S_ 1 := constantI S_ 1 1#1
  let main_v2 : IVec S_ 1 := (fun x v => Host.reduce IntOp.andi x v reducesTo_S96x4_S_d0_1 h_S_) main_v1 main_c_0
  let main_c_1 : IVec S_ 32 := constantI S_ 32 96#32
  let main_v3 : IVec S96x4 32 := broadcastInDim S96x4 ![] bcast_S_S96x4 main_c_1
  let main_v4 : IVec S96x4 1 := cmpi .slt main_arg2 main_v3
  let main_c_2 : IVec S_ 1 := constantI S_ 1 1#1
  let main_v5 : IVec S_ 1 := (fun x v => Host.reduce IntOp.andi x v reducesTo_S96x4_S_d0_1 h_S_) main_v4 main_c_2
  let main_v6 : IVec S_ 1 := andi main_v2 main_v5
  let main_c_3 : IVec S_ 32 := constantI S_ 32 0#32
  let main_v7 : IVec S96x4 32 := broadcastInDim S96x4 ![] bcast_S_S96x4 main_c_3
  let main_v8 : IVec S96x4 1 := cmpi .sge main_arg3 main_v7
  let main_c_4 : IVec S_ 1 := constantI S_ 1 1#1
  let main_v9 : IVec S_ 1 := (fun x v => Host.reduce IntOp.andi x v reducesTo_S96x4_S_d0_1 h_S_) main_v8 main_c_4
  let main_v10 : IVec S_ 1 := andi main_v6 main_v9
  let main_c_5 : IVec S_ 32 := constantI S_ 32 3#32
  let main_v11 : IVec S96x4 32 := broadcastInDim S96x4 ![] bcast_S_S96x4 main_c_5
  let main_v12 : IVec S96x4 1 := cmpi .slt main_arg3 main_v11
  let main_c_6 : IVec S_ 1 := constantI S_ 1 1#1
  let main_v13 : IVec S_ 1 := (fun x v => Host.reduce IntOp.andi x v reducesTo_S96x4_S_d0_1 h_S_) main_v12 main_c_6
  let main_v14 : IVec S_ 1 := andi main_v10 main_v13
  let main_c_7 : IVec S_ 32 := constantI S_ 32 0#32
  fn_part1 (F := F) main_arg4 main_v14 main_c_7
-- ==== Kernel.lean ====
abbrev S4x96x224x224 : Shape := ⟨4, ![4, 96, 224, 224]⟩
abbrev S96x3x16 : Shape := ⟨3, ![96, 3, 16]⟩
abbrev S96x4 : Shape := ⟨2, ![96, 4]⟩
abbrev S16x4 : Shape := ⟨2, ![16, 4]⟩
abbrev S_ : Shape := ⟨0, ![]⟩
abbrev S96x3 : Shape := ⟨2, ![96, 3]⟩
abbrev S96x3x1 : Shape := ⟨3, ![96, 3, 1]⟩
abbrev S1x1x16 : Shape := ⟨3, ![1, 1, 16]⟩
abbrev S96x3x16x1 : Shape := ⟨4, ![96, 3, 16, 1]⟩
abbrev S1x1x16x4 : Shape := ⟨4, ![1, 1, 16, 4]⟩
abbrev S96x3x16x4 : Shape := ⟨4, ![96, 3, 16, 4]⟩
abbrev S96x3x4 : Shape := ⟨3, ![96, 3, 4]⟩
abbrev S96x1x12 : Shape := ⟨3, ![96, 1, 12]⟩
abbrev S1x96x4 : Shape := ⟨3, ![1, 96, 4]⟩
abbrev S3x96x4 : Shape := ⟨3, ![3, 96, 4]⟩
abbrev S224 : Shape := ⟨1, ![224]⟩
abbrev S224x1 : Shape := ⟨2, ![224, 1]⟩
abbrev S112 : Shape := ⟨1, ![112]⟩
abbrev S1x112 : Shape := ⟨2, ![1, 112]⟩
abbrev S224x112 : Shape := ⟨2, ![224, 112]⟩
abbrev S4x96x112x112 : Shape := ⟨4, ![4, 96, 112, 112]⟩
abbrev S4x1x224x224 : Shape := ⟨4, ![4, 1, 224, 224]⟩
abbrev S1x1x1 : Shape := ⟨3, ![1, 1, 1]⟩
abbrev S1x1x12 : Shape := ⟨3, ![1, 1, 12]⟩
abbrev S4x1x112x112 : Shape := ⟨4, ![4, 1, 112, 112]⟩
abbrev S224x224 : Shape := ⟨2, ![224, 224]⟩
abbrev S4x224x224 : Shape := ⟨3, ![4, 224, 224]⟩
abbrev S1x224x224 : Shape := ⟨3, ![1, 224, 224]⟩
abbrev S223x224 : Shape := ⟨2, ![223, 224]⟩
abbrev S1x224 : Shape := ⟨2, ![1, 224]⟩
abbrev S112x224 : Shape := ⟨2, ![112, 224]⟩
abbrev S112x223 : Shape := ⟨2, ![112, 223]⟩
abbrev S112x1 : Shape := ⟨2, ![112, 1]⟩
abbrev S112x112 : Shape := ⟨2, ![112, 112]⟩
abbrev S1x1x112x112 : Shape := ⟨4, ![1, 1, 112, 112]⟩

abbrev nBuf : Space → Nat
  | .hbm => 70
  | .vmem => 14
  | .smem => 1
  | _ => 0

abbrev bufTy : (tb : Table) → Fin (tcTables nBuf tb) → BufTy
  | .hbm, ⟨0, _⟩ => ⟨S4x96x224x224, .f32⟩
  | .hbm, ⟨1, _⟩ => ⟨S96x3x16, .f32⟩
  | .hbm, ⟨2, _⟩ => ⟨S96x4, .i32⟩
  | .hbm, ⟨3, _⟩ => ⟨S96x4, .i32⟩
  | .hbm, ⟨4, _⟩ => ⟨S96x4, .i32⟩
  | .hbm, ⟨5, _⟩ => ⟨S16x4, .f32⟩
  | .hbm, ⟨6, _⟩ => ⟨S_, .f32⟩
  | .hbm, ⟨7, _⟩ => ⟨S96x3x16, .f32⟩
  | .hbm, ⟨8, _⟩ => ⟨S96x3x16, .f32⟩
  | .hbm, ⟨9, _⟩ => ⟨S_, .f32⟩
  | .hbm, ⟨10, _⟩ => ⟨S96x3, .f32⟩
  | .hbm, ⟨11, _⟩ => ⟨S_, .f32⟩
  | .hbm, ⟨12, _⟩ => ⟨S96x3, .f32⟩
  | .hbm, ⟨13, _⟩ => ⟨S96x3, .f32⟩
  | .hbm, ⟨14, _⟩ => ⟨S96x3x1, .f32⟩
  | .hbm, ⟨15, _⟩ => ⟨S96x3x16, .f32⟩
  | .hbm, ⟨16, _⟩ => ⟨S96x3x16, .f32⟩
  | .hbm, ⟨17, _⟩ => ⟨S96x3x16, .f32⟩
  | .hbm, ⟨18, _⟩ => ⟨S_, .f32⟩
  | .hbm, ⟨19, _⟩ => ⟨S96x3, .f32⟩
  | .hbm, ⟨20, _⟩ => ⟨S96x3x1, .f32⟩
  | .hbm, ⟨21, _⟩ => ⟨S96x3x16, .f32⟩
  | .hbm, ⟨22, _⟩ => ⟨S96x3x16, .f32⟩
  | .hbm, ⟨23, _⟩ => ⟨S96x3x16, .i32⟩
  | .hbm, ⟨24, _⟩ => ⟨S_, .f32⟩
  | .hbm, ⟨25, _⟩ => ⟨S_, .i32⟩
  | .hbm, ⟨26, _⟩ => ⟨S96x3, .f32⟩
  | .hbm, ⟨27, _⟩ => ⟨S96x3, .i32⟩
  | .hbm, ⟨28, _⟩ => ⟨S96x3x1, .i32⟩
  | .hbm, ⟨29, _⟩ => ⟨S1x1x16, .i32⟩
  | .hbm, ⟨30, _⟩ => ⟨S96x3x16, .i32⟩
  | .hbm, ⟨31, _⟩ => ⟨S96x3x16, .i32⟩
  | .hbm, ⟨32, _⟩ => ⟨S96x3x16, .i1⟩
  | .hbm, ⟨33, _⟩ => ⟨S96x3x16, .f32⟩
  | .hbm, ⟨34, _⟩ => ⟨S96x3x16, .f32⟩
  | .hbm, ⟨35, _⟩ => ⟨S96x3x16, .f32⟩
  | .hbm, ⟨36, _⟩ => ⟨S96x3x16x1, .f32⟩
  | .hbm, ⟨37, _⟩ => ⟨S1x1x16x4, .f32⟩
  | .hbm, ⟨38, _⟩ => ⟨S96x3x16x4, .f32⟩
  | .hbm, ⟨39, _⟩ => ⟨S96x3x16x4, .f32⟩
  | .hbm, ⟨40, _⟩ => ⟨S96x3x16x4, .f32⟩
  | .hbm, ⟨41, _⟩ => ⟨S_, .f32⟩
  | .hbm, ⟨42, _⟩ => ⟨S96x3x4, .f32⟩
  | .hbm, ⟨43, _⟩ => ⟨S96x1x12, .f32⟩
  | .hbm, ⟨44, _⟩ => ⟨S1x96x4, .i32⟩
  | .hbm, ⟨45, _⟩ => ⟨S1x96x4, .i32⟩
  | .hbm, ⟨46, _⟩ => ⟨S1x96x4, .i32⟩
  | .hbm, ⟨47, _⟩ => ⟨S224, .i32⟩
  | .hbm, ⟨48, _⟩ => ⟨S224x1, .i32⟩
  | .hbm, ⟨49, _⟩ => ⟨S112, .i32⟩
  | .hbm, ⟨50, _⟩ => ⟨S1x112, .i32⟩
  | .hbm, ⟨51, _⟩ => ⟨S_, .i32⟩
  | .hbm, ⟨52, _⟩ => ⟨S1x112, .i32⟩
  | .hbm, ⟨53, _⟩ => ⟨S1x112, .i32⟩
  | .hbm, ⟨54, _⟩ => ⟨S224x112, .i32⟩
  | .hbm, ⟨55, _⟩ => ⟨S224x112, .i32⟩
  | .hbm, ⟨56, _⟩ => ⟨S224x112, .i1⟩
  | .hbm, ⟨57, _⟩ => ⟨S224x112, .f32⟩
  | .hbm, ⟨58, _⟩ => ⟨S224, .i32⟩
  | .hbm, ⟨59, _⟩ => ⟨S224x1, .i32⟩
  | .hbm, ⟨60, _⟩ => ⟨S112, .i32⟩
  | .hbm, ⟨61, _⟩ => ⟨S1x112, .i32⟩
  | .hbm, ⟨62, _⟩ => ⟨S_, .i32⟩
  | .hbm, ⟨63, _⟩ => ⟨S1x112, .i32⟩
  | .hbm, ⟨64, _⟩ => ⟨S1x112, .i32⟩
  | .hbm, ⟨65, _⟩ => ⟨S224x112, .i32⟩
  | .hbm, ⟨66, _⟩ => ⟨S224x112, .i32⟩
  | .hbm, ⟨67, _⟩ => ⟨S224x112, .i1⟩
  | .hbm, ⟨68, _⟩ => ⟨S224x112, .f32⟩
  | .hbm, ⟨69, _⟩ => ⟨S4x96x112x112, .f32⟩
  | .local _ .vmem, ⟨0, _⟩ => ⟨S4x1x224x224, .f32⟩
  | .local _ .vmem, ⟨1, _⟩ => ⟨S4x1x224x224, .f32⟩
  | .local _ .vmem, ⟨2, _⟩ => ⟨S4x1x224x224, .f32⟩
  | .local _ .vmem, ⟨3, _⟩ => ⟨S4x1x224x224, .f32⟩
  | .local _ .vmem, ⟨4, _⟩ => ⟨S4x1x224x224, .f32⟩
  | .local _ .vmem, ⟨5, _⟩ => ⟨S4x1x224x224, .f32⟩
  | .local _ .vmem, ⟨6, _⟩ => ⟨S4x1x224x224, .f32⟩
  | .local _ .vmem, ⟨7, _⟩ => ⟨S4x1x224x224, .f32⟩
  | .local _ .vmem, ⟨8, _⟩ => ⟨S1x1x12, .f32⟩
  | .local _ .vmem, ⟨9, _⟩ => ⟨S1x1x12, .f32⟩
  | .local _ .vmem, ⟨10, _⟩ => ⟨S224x112, .f32⟩
  | .local _ .vmem, ⟨11, _⟩ => ⟨S224x112, .f32⟩
  | .local _ .vmem, ⟨12, _⟩ => ⟨S4x1x112x112, .f32⟩
  | .local _ .vmem, ⟨13, _⟩ => ⟨S4x1x112x112, .f32⟩
  | .local _ .smem, ⟨0, _⟩ => ⟨S3x96x4, .i32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v13 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v27 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_v27.idx], fun | 0 => main_v27.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def k0_off2 (i : grid0.Coords) : Fin 3 → Nat :=
  let c0 : Index := 0#32
  let arg0 : BitVec 32 := BitVec.ofNat 32 (i 0).val
  let v0 : Index := Scalar.indexCast arg0
  let c1 : Index := 1#32
  ![0, v0.toNat, 1]
def k0_off3 (i : grid0.Coords) : Fin 3 → Nat :=
  let c0 : Index := 0#32
  let arg0 : BitVec 32 := BitVec.ofNat 32 (i 0).val
  let v0 : Index := Scalar.indexCast arg0
  let c2 : Index := 2#32
  ![0, v0.toNat, 2]
def k0_off4 (i : grid0.Coords) : Fin 3 → Nat :=
  let c0 : Index := 0#32
  let arg0 : BitVec 32 := BitVec.ofNat 32 (i 0).val
  let v0 : Index := Scalar.indexCast arg0
  let c3 : Index := 3#32
  ![0, v0.toNat, 3]
def k0_off5 (i : grid0.Coords) : Fin 3 → Nat :=
  let c1 : Index := 1#32
  let arg0 : BitVec 32 := BitVec.ofNat 32 (i 0).val
  let v2 : Index := Scalar.indexCast arg0
  let c0 : Index := 0#32
  ![1, v2.toNat, 0]
def k0_off6 (i : grid0.Coords) : Fin 3 → Nat :=
  let c2 : Index := 2#32
  let arg0 : BitVec 32 := BitVec.ofNat 32 (i 0).val
  let v4 : Index := Scalar.indexCast arg0
  let c0_0 : Index := 0#32
  ![2, v4.toNat, 0]
def k0_off7 (i : grid0.Coords) : Fin 3 → Nat :=
  let c1_11 : Index := 1#32
  let arg0 : BitVec 32 := BitVec.ofNat 32 (i 0).val
  let v40 : Index := Scalar.indexCast arg0
  let c1_12 : Index := 1#32
  ![1, v40.toNat, 1]
def k0_off8 (i : grid0.Coords) : Fin 3 → Nat :=
  let c2_13 : Index := 2#32
  let arg0 : BitVec 32 := BitVec.ofNat 32 (i 0).val
  let v42 : Index := Scalar.indexCast arg0
  let c1_14 : Index := 1#32
  ![2, v42.toNat, 1]
def k0_off9 (i : grid0.Coords) : Fin 3 → Nat :=
  let c1_30 : Index := 1#32
  let arg0 : BitVec 32 := BitVec.ofNat 32 (i 0).val
  let v78 : Index := Scalar.indexCast arg0
  let c2_31 : Index := 2#32
  ![1, v78.toNat, 2]
def k0_off10 (i : grid0.Coords) : Fin 3 → Nat :=
  let c2_32 : Index := 2#32
  let arg0 : BitVec 32 := BitVec.ofNat 32 (i 0).val
  let v80 : Index := Scalar.indexCast arg0
  let c2_33 : Index := 2#32
  ![2, v80.toNat, 2]
def k0_off11 (i : grid0.Coords) : Fin 3 → Nat :=
  let c1_49 : Index := 1#32
  let arg0 : BitVec 32 := BitVec.ofNat 32 (i 0).val
  let v116 : Index := Scalar.indexCast arg0
  let c3 : Index := 3#32
  ![1, v116.toNat, 3]
def k0_off12 (i : grid0.Coords) : Fin 3 → Nat :=
  let c2_50 : Index := 2#32
  let arg0 : BitVec 32 := BitVec.ofNat 32 (i 0).val
  let v118 : Index := Scalar.indexCast arg0
  let c3_51 : Index := 3#32
  ![2, v118.toNat, 3]
def cc0_transform_0 (k0_off1_inb : ∀ i : grid0.Coords, ∀ a, (k0_off1 i) a + S1x1x1.size a ≤ S3x96x4.size a) (numel1_S1x1x1 : S1x1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let c0_0 : Index := 0#32
  let v1 : BitVec 32 := pf.at 0 (Rect.unit (s := S3x96x4) ![0, v0.toNat, 0] S1x1x1.size (k0_off1_inb i)) numel1_S1x1x1
  let c0_i32 : BitVec 32 := 0#32
  let c0_i32_1 : BitVec 32 := 0#32
  let c0_i32_2 : BitVec 32 := 0#32
  let c0_i32_3 : BitVec 32 := 0#32
  ![c0_i32.toNat, v1.toNat, c0_i32_1.toNat, c0_i32_2.toNat]

def cc0_transform_1 (k0_off2_inb : ∀ i : grid0.Coords, ∀ a, (k0_off2 i) a + S1x1x1.size a ≤ S3x96x4.size a) (numel1_S1x1x1 : S1x1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let c1 : Index := 1#32
  let v1 : BitVec 32 := pf.at 0 (Rect.unit (s := S3x96x4) ![0, v0.toNat, 1] S1x1x1.size (k0_off2_inb i)) numel1_S1x1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off3_inb : ∀ i : grid0.Coords, ∀ a, (k0_off3 i) a + S1x1x1.size a ≤ S3x96x4.size a) (numel1_S1x1x1 : S1x1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let c2 : Index := 2#32
  let v1 : BitVec 32 := pf.at 0 (Rect.unit (s := S3x96x4) ![0, v0.toNat, 2] S1x1x1.size (k0_off3_inb i)) numel1_S1x1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off4_inb : ∀ i : grid0.Coords, ∀ a, (k0_off4 i) a + S1x1x1.size a ≤ S3x96x4.size a) (numel1_S1x1x1 : S1x1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let c3 : Index := 3#32
  let v1 : BitVec 32 := pf.at 0 (Rect.unit (s := S3x96x4) ![0, v0.toNat, 3] S1x1x1.size (k0_off4_inb i)) numel1_S1x1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S224x112 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x112 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1x112x112 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x96x224x224 : Shape := ⟨4, ![4, 96, 224, 224]⟩
abbrev S96x3x16 : Shape := ⟨3, ![96, 3, 16]⟩
abbrev S96x4 : Shape := ⟨2, ![96, 4]⟩
abbrev S16x4 : Shape := ⟨2, ![16, 4]⟩
abbrev S_ : Shape := ⟨0, ![]⟩
abbrev S4x96x226x226 : Shape := ⟨4, ![4, 96, 226, 226]⟩
abbrev S96x3 : Shape := ⟨2, ![96, 3]⟩
abbrev S96x3x1 : Shape := ⟨3, ![96, 3, 1]⟩
abbrev S1x1x16 : Shape := ⟨3, ![1, 1, 16]⟩
abbrev S96x3x4 : Shape := ⟨3, ![96, 3, 4]⟩
abbrev S96 : Shape := ⟨1, ![96]⟩
abbrev S96x1 : Shape := ⟨2, ![96, 1]⟩
abbrev S224 : Shape := ⟨1, ![224]⟩
abbrev S1x1x224 : Shape := ⟨3, ![1, 1, 224]⟩
abbrev S96x4x1 : Shape := ⟨3, ![96, 4, 1]⟩
abbrev S96x4x224 : Shape := ⟨3, ![96, 4, 224]⟩
abbrev S96x4x1x1 : Shape := ⟨4, ![96, 4, 1, 1]⟩
abbrev S96x4x224x1 : Shape := ⟨4, ![96, 4, 224, 1]⟩
abbrev S96x4x1x224 : Shape := ⟨4, ![96, 4, 1, 224]⟩
abbrev S96x4x224x224 : Shape := ⟨4, ![96, 4, 224, 224]⟩
abbrev S96x4x224x224x1 : Shape := ⟨5, ![96, 4, 224, 224, 1]⟩
abbrev S96x4x224x224x3 : Shape := ⟨5, ![96, 4, 224, 224, 3]⟩
abbrev S4x96x4x224x224 : Shape := ⟨5, ![4, 96, 4, 224, 224]⟩
abbrev S4x96x2x224x224 : Shape := ⟨5, ![4, 96, 2, 224, 224]⟩
abbrev S96x2x4 : Shape := ⟨3, ![96, 2, 4]⟩
abbrev S96x2x1 : Shape := ⟨3, ![96, 2, 1]⟩
abbrev S96x2 : Shape := ⟨2, ![96, 2]⟩
abbrev S1x96x2x1x1 : Shape := ⟨5, ![1, 96, 2, 1, 1]⟩
abbrev S4x96x1x224x224 : Shape := ⟨5, ![4, 96, 1, 224, 224]⟩
abbrev S96x1x4 : Shape := ⟨3, ![96, 1, 4]⟩
abbrev S96x1x1 : Shape := ⟨3, ![96, 1, 1]⟩
abbrev S1x96x1x1x1 : Shape := ⟨5, ![1, 96, 1, 1, 1]⟩
abbrev S4x96x112x2x112x2 : Shape := ⟨6, ![4, 96, 112, 2, 112, 2]⟩
abbrev S4x96x112x1x112x1 : Shape := ⟨6, ![4, 96, 112, 1, 112, 1]⟩
abbrev S4x96x112x112 : Shape := ⟨4, ![4, 96, 112, 112]⟩

abbrev nBuf : Space → Nat
  | .hbm => 186
  | .vmem => 0
  | .smem => 0
  | _ => 0

abbrev hbmTy0_0 (i : Nat) : BufTy := match i % 128 with
  | 0 => ⟨S4x96x224x224, .f32⟩
  | 1 => ⟨S96x3x16, .f32⟩
  | 2 => ⟨S96x4, .i32⟩
  | 3 => ⟨S96x4, .i32⟩
  | 4 => ⟨S96x4, .i32⟩
  | 5 => ⟨S16x4, .f32⟩
  | 6 => ⟨S_, .i32⟩
  | 7 => ⟨S_, .f32⟩
  | 8 => ⟨S4x96x226x226, .f32⟩
  | 9 => ⟨S_, .f32⟩
  | 10 => ⟨S96x3x16, .f32⟩
  | 11 => ⟨S96x3x16, .f32⟩
  | 12 => ⟨S_, .f32⟩
  | 13 => ⟨S96x3, .f32⟩
  | 14 => ⟨S_, .f32⟩
  | 15 => ⟨S96x3, .f32⟩
  | 16 => ⟨S96x3, .f32⟩
  | 17 => ⟨S96x3x1, .f32⟩
  | 18 => ⟨S96x3x16, .f32⟩
  | 19 => ⟨S96x3x16, .f32⟩
  | 20 => ⟨S96x3x16, .f32⟩
  | 21 => ⟨S_, .f32⟩
  | 22 => ⟨S96x3, .f32⟩
  | 23 => ⟨S96x3x1, .f32⟩
  | 24 => ⟨S96x3x16, .f32⟩
  | 25 => ⟨S96x3x16, .f32⟩
  | 26 => ⟨S96x3x16, .i32⟩
  | 27 => ⟨S_, .f32⟩
  | 28 => ⟨S_, .i32⟩
  | 29 => ⟨S96x3, .f32⟩
  | 30 => ⟨S96x3, .i32⟩
  | 31 => ⟨S96x3x1, .i32⟩
  | 32 => ⟨S1x1x16, .i32⟩
  | 33 => ⟨S96x3x16, .i32⟩
  | 34 => ⟨S96x3x16, .i32⟩
  | 35 => ⟨S96x3x16, .i1⟩
  | 36 => ⟨S96x3x16, .f32⟩
  | 37 => ⟨S96x3x16, .f32⟩
  | 38 => ⟨S96x3x16, .f32⟩
  | 39 => ⟨S96x3x4, .f32⟩
  | 40 => ⟨S96, .i32⟩
  | 41 => ⟨S_, .i32⟩
  | 42 => ⟨S_, .i32⟩
  | 43 => ⟨S96, .i32⟩
  | 44 => ⟨S96, .i32⟩
  | 45 => ⟨S96, .i32⟩
  | 46 => ⟨S_, .i32⟩
  | 47 => ⟨S96, .i32⟩
  | 48 => ⟨S96, .i1⟩
  | 49 => ⟨S96, .i32⟩
  | 50 => ⟨S96, .i32⟩
  | 51 => ⟨S_, .i32⟩
  | 52 => ⟨S96, .i32⟩
  | 53 => ⟨S96, .i1⟩
  | 54 => ⟨S96, .i1⟩
  | 55 => ⟨S_, .i32⟩
  | 56 => ⟨S96, .i32⟩
  | 57 => ⟨S96, .i32⟩
  | 58 => ⟨S96, .i32⟩
  | 59 => ⟨S_, .i32⟩
  | 60 => ⟨S96, .i32⟩
  | 61 => ⟨S96, .i32⟩
  | 62 => ⟨S96x1, .i32⟩
  | 63 => ⟨S96x4, .i32⟩
  | 64 => ⟨S96x4, .i32⟩
  | 65 => ⟨S224, .i32⟩
  | 66 => ⟨S_, .i32⟩
  | 67 => ⟨S224, .i32⟩
  | 68 => ⟨S224, .i32⟩
  | 69 => ⟨S224, .i32⟩
  | 70 => ⟨S_, .i32⟩
  | 71 => ⟨S224, .i32⟩
  | 72 => ⟨S224, .i32⟩
  | 73 => ⟨S1x1x224, .i32⟩
  | 74 => ⟨S96x4x1, .i32⟩
  | 75 => ⟨S96x4x224, .i32⟩
  | 76 => ⟨S96x4x224, .i32⟩
  | 77 => ⟨S96x4x224, .i32⟩
  | 78 => ⟨S1x1x224, .i32⟩
  | 79 => ⟨S96x4x1, .i32⟩
  | 80 => ⟨S96x4x224, .i32⟩
  | 81 => ⟨S96x4x224, .i32⟩
  | 82 => ⟨S96x4x224, .i32⟩
  | 83 => ⟨S96x4x1x1, .i32⟩
  | 84 => ⟨S96x4x224x1, .i32⟩
  | 85 => ⟨S96x4x1x224, .i32⟩
  | 86 => ⟨S_, .i32⟩
  | 87 => ⟨S96x4x1x1, .i32⟩
  | 88 => ⟨S96x4x1x1, .i1⟩
  | 89 => ⟨S_, .i32⟩
  | 90 => ⟨S96x4x1x1, .i32⟩
  | 91 => ⟨S96x4x1x1, .i32⟩
  | 92 => ⟨S96x4x1x1, .i32⟩
  | 93 => ⟨S_, .i32⟩
  | 94 => ⟨S96x4x224x1, .i32⟩
  | 95 => ⟨S96x4x224x1, .i1⟩
  | 96 => ⟨S_, .i32⟩
  | 97 => ⟨S96x4x224x1, .i32⟩
  | 98 => ⟨S96x4x224x1, .i32⟩
  | 99 => ⟨S96x4x224x1, .i32⟩
  | 100 => ⟨S_, .i32⟩
  | 101 => ⟨S96x4x1x224, .i32⟩
  | 102 => ⟨S96x4x1x224, .i1⟩
  | 103 => ⟨S_, .i32⟩
  | 104 => ⟨S96x4x1x224, .i32⟩
  | 105 => ⟨S96x4x1x224, .i32⟩
  | 106 => ⟨S96x4x1x224, .i32⟩
  | 107 => ⟨S96x4x224x224, .i32⟩
  | 108 => ⟨S96x4x224x224, .i32⟩
  | 109 => ⟨S96x4x224x224, .i32⟩
  | 110 => ⟨S96x4x224x224x1, .i32⟩
  | 111 => ⟨S96x4x224x224x1, .i32⟩
  | 112 => ⟨S96x4x224x224x1, .i32⟩
  | 113 => ⟨S96x4x224x224x3, .i32⟩
  | 114 => ⟨S4x96x4x224x224, .f32⟩
  | 115 => ⟨S4x96x2x224x224, .f32⟩
  | 116 => ⟨S4x96x2x224x224, .f32⟩
  | 117 => ⟨S96x2x4, .f32⟩
  | 118 => ⟨S96x2x1, .f32⟩
  | 119 => ⟨S96x2, .f32⟩
  | 120 => ⟨S1x96x2x1x1, .f32⟩
  | 121 => ⟨S96x2x1, .f32⟩
  | 122 => ⟨S96x2, .f32⟩
  | 123 => ⟨S1x96x2x1x1, .f32⟩
  | 124 => ⟨S96x2x1, .f32⟩
  | 125 => ⟨S96x2, .f32⟩
  | 126 => ⟨S1x96x2x1x1, .f32⟩
  | 127 => ⟨S96x2x1, .f32⟩
  | _ => ⟨S4x96x224x224, .f32⟩

abbrev hbmTy0_1 (i : Nat) : BufTy := match i % 128 with
  | 0 => ⟨S96x2, .f32⟩
  | 1 => ⟨S1x96x2x1x1, .f32⟩
  | 2 => ⟨S4x96x2x224x224, .f32⟩
  | 3 => ⟨S4x96x2x224x224, .f32⟩
  | 4 => ⟨S4x96x2x224x224, .f32⟩
  | 5 => ⟨S4x96x2x224x224, .f32⟩
  | 6 => ⟨S4x96x2x224x224, .f32⟩
  | 7 => ⟨S4x96x2x224x224, .f32⟩
  | 8 => ⟨S4x96x2x224x224, .f32⟩
  | 9 => ⟨S4x96x2x224x224, .f32⟩
  | 10 => ⟨S4x96x2x224x224, .f32⟩
  | 11 => ⟨S4x96x2x224x224, .f32⟩
  | 12 => ⟨S4x96x2x224x224, .f32⟩
  | 13 => ⟨S4x96x1x224x224, .f32⟩
  | 14 => ⟨S4x96x1x224x224, .f32⟩
  | 15 => ⟨S96x1x4, .f32⟩
  | 16 => ⟨S96x1x1, .f32⟩
  | 17 => ⟨S96x1, .f32⟩
  | 18 => ⟨S1x96x1x1x1, .f32⟩
  | 19 => ⟨S96x1x1, .f32⟩
  | 20 => ⟨S96x1, .f32⟩
  | 21 => ⟨S1x96x1x1x1, .f32⟩
  | 22 => ⟨S96x1x1, .f32⟩
  | 23 => ⟨S96x1, .f32⟩
  | 24 => ⟨S1x96x1x1x1, .f32⟩
  | 25 => ⟨S96x1x1, .f32⟩
  | 26 => ⟨S96x1, .f32⟩
  | 27 => ⟨S1x96x1x1x1, .f32⟩
  | 28 => ⟨S4x96x1x224x224, .f32⟩
  | 29 => ⟨S4x96x1x224x224, .f32⟩
  | 30 => ⟨S4x96x1x224x224, .f32⟩
  | 31 => ⟨S4x96x1x224x224, .f32⟩
  | 32 => ⟨S4x96x1x224x224, .f32⟩
  | 33 => ⟨S4x96x1x224x224, .f32⟩
  | 34 => ⟨S4x96x1x224x224, .f32⟩
  | 35 => ⟨S4x96x1x224x224, .f32⟩
  | 36 => ⟨S4x96x1x224x224, .f32⟩
  | 37 => ⟨S4x96x1x224x224, .f32⟩
  | 38 => ⟨S4x96x1x224x224, .f32⟩
  | 39 => ⟨S4x96x224x224, .f32⟩
  | 40 => ⟨S4x96x112x2x112x2, .f32⟩
  | 41 => ⟨S_, .f32⟩
  | 42 => ⟨S4x96x112x2x112x2, .f32⟩
  | 43 => ⟨S4x96x112x2x112x2, .f32⟩
  | 44 => ⟨S4x96x112x1x112x1, .f32⟩
  | 45 => ⟨S4x96x112x112, .f32⟩
  | 46 => ⟨S4x96x112x1x112x1, .f32⟩
  | 47 => ⟨S4x96x112x112, .f32⟩
  | 48 => ⟨S4x96x112x112, .f32⟩
  | 49 => ⟨S4x96x112x1x112x1, .f32⟩
  | 50 => ⟨S4x96x112x112, .f32⟩
  | 51 => ⟨S4x96x112x112, .f32⟩
  | 52 => ⟨S4x96x112x1x112x1, .f32⟩
  | 53 => ⟨S4x96x112x112, .f32⟩
  | 54 => ⟨S4x96x112x112, .f32⟩
  | 55 => ⟨S_, .f32⟩
  | 56 => ⟨S4x96x112x112, .f32⟩
  | 57 => ⟨S4x96x112x112, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_cst : Ref sig .tc := ⟨.hbm, 27, rfl⟩
abbrev main_call1_c : Ref sig .tc := ⟨.hbm, 28, rfl⟩
abbrev main_call1_v1_0 : Ref sig .tc := ⟨.hbm, 29, rfl⟩
abbrev main_v14 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_v6 : Ref sig .tc := ⟨.hbm, 48, rfl⟩
abbrev main_call3_v7 : Ref sig .tc := ⟨.hbm, 49, rfl⟩
abbrev main_call3_v8 : Ref sig .tc := ⟨.hbm, 50, rfl⟩
abbrev main_call3_c : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_0 : Ref sig .tc := ⟨.hbm, 55, rfl⟩
abbrev main_call3_v12 : Ref sig .tc := ⟨.hbm, 56, rfl⟩
abbrev main_call3_v13 : Ref sig .tc := ⟨.hbm, 57, rfl⟩
abbrev main_v20 : Ref sig .tc := ⟨.hbm, 58, rfl⟩
abbrev main_c_5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_c_6 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_c_7 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_8 : Ref sig .tc := ⟨.hbm, 86, rfl⟩
abbrev main_v45 : Ref sig .tc := ⟨.hbm, 87, rfl⟩
abbrev main_v46 : Ref sig .tc := ⟨.hbm, 88, rfl⟩
abbrev main_c_9 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_10 : Ref sig .tc := ⟨.hbm, 93, rfl⟩
abbrev main_v50 : Ref sig .tc := ⟨.hbm, 94, rfl⟩
abbrev main_v51 : Ref sig .tc := ⟨.hbm, 95, rfl⟩
abbrev main_c_11 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_12 : Ref sig .tc := ⟨.hbm, 100, rfl⟩
abbrev main_v55 : Ref sig .tc := ⟨.hbm, 101, rfl⟩
abbrev main_v56 : Ref sig .tc := ⟨.hbm, 102, rfl⟩
abbrev main_c_13 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_14 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_15 : Ref sig .tc := ⟨.hbm, 183, rfl⟩
abbrev main_v135 : Ref sig .tc := ⟨.hbm, 184, rfl⟩
abbrev main_v136 : Ref sig .tc := ⟨.hbm, 185, rfl⟩

abbrev nD : Nat := 1
abbrev τ : Topo := Topo.v7x

variable {F : FTy → Type} [FloatOps F]
-- ==== Proof.TableKernel.lean ====
/- The table the kernel as it runs prefetches: three planes of 96 by 4 words, the channels, the row offsets and the column
   offsets of each output kernel's four leaves. Its words are the integer arguments' words, and when the channels lie in
   [0, 96) every block that the table names lies inside the image array. -/
module

public import proofs.«01_k».proof.Defs
public import proofs.«01_k».proof.Proof.Gen.Kernel.Frame
public import proofs.«01_k».proof.Proof.Gen.Pre_channels_in_range
public import Idealize.ShloMosaic.Lib.Claim
public import Idealize.ShloMosaic.Lib.Pointwise
public import Idealize.ShloMosaic.Lib.ReduceAll
public import Idealize.ShloMosaic.Lib.WordCmp

@[expose] public section

set_option maxRecDepth 16384

noncomputable section

namespace Cert.Kernel.Table

open Cert.Kernel Cert.Kernel.Gen
open Idealize.ShloMosaic Idealize.ShloMosaic.TcCoe Idealize.SL.Sem

variable {F : FTy → Type} [FloatOps F]

/-- The three integer arguments laid one above the other. -/
def words (a2 a4 a3 : IVec S96x4 32) : IVec S3x96x4 32 :=
  concatenate S3x96x4 0
    [⟨S1x96x4, broadcastInDim S1x96x4 ![1, 2] bcast_S96x4_S1x96x4_1_2 a2⟩,
     ⟨S1x96x4, broadcastInDim S1x96x4 ![1, 2] bcast_S96x4_S1x96x4_1_2 a4⟩,
     ⟨S1x96x4, broadcastInDim S1x96x4 ![1, 2] bcast_S96x4_S1x96x4_1_2 a3⟩]
    concatenates_S1x96x4_S1x96x4_S1x96x4_S3x96x4_d0

/-- A word of the table, by its plane. -/
theorem words_apply (a2 a4 a3 : IVec S96x4 32) (r : Fin 3) (o : Fin 96) (i : Fin 4) :
    words a2 a4 a3 (ix3 r o i) = if r.val = 0 then a2 (ix2 o i) else if r.val = 1 then a4 (ix2 o i) else a3 (ix2 o i) := by
  pointwise [words]
  have hr := r.isLt
  by_cases h0 : r.val = 0
  · rw [dif_pos (by omega), if_pos h0]
  by_cases h1 : r.val = 1
  · rw [dif_neg (by omega), dif_pos (by omega), if_neg h0, if_pos h1]
  · rw [dif_neg (by omega), dif_neg (by omega), if_neg h0, if_neg h1]

/-- The table as the region finds it. -/
theorem V_table (m : (ℓ : Loc nD τ sig) → Buf (Elt F) ℓ) (c : Dev nD) :
    V m c main_v27 = words (m ((c : Thread nD τ).loc main_arg2)) (m ((c : Thread nD τ).loc main_arg4)) (m ((c : Thread nD τ).loc main_arg3)) := by
  entry_read
  rfl

/-- A word read signed in [0, 96) is a natural number below 96. -/
theorem toNat_lt (x : BitVec 32) (n : Nat) (hn : n < 2147483648) (h0 : IntOp.cmpi .sge x 0#32 = 1#1) (h1 : IntOp.cmpi .slt x (BitVec.ofNat 32 n) = 1#1) :
    x.toNat < n := by
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at h0 h1
  have := x.isLt
  have hm : n % 4294967296 = n := Nat.mod_eq_of_lt (by omega)
  simp only [Nat.reducePow, hm] at *
  split at h0 <;> split at h1 <;> simp_all <;> omega

/-- The range of the channels, from the precondition. -/
theorem channel_lt (m : (ℓ : Loc nD τ sig) → Buf (Elt Bits) ℓ) (h : Cert.Pre_Kernel m) (c : Dev nD) (y : S96x4.Idx) :
    (m ((c : Thread nD τ).loc main_arg2) y : BitVec 32).toNat < 96 := by
  have andi_one (a b : BitVec 1) : IntOp.andi a b = 1#1 ↔ a = 1#1 ∧ b = 1#1 := by revert a b; decide
  have e := congrFun (h c) (fun a => a.elim0)
  dsimp only [Cert.Pre_channels_in_range.fn, andi] at e
  obtain ⟨e0, e1⟩ := (andi_one _ _).1 e
  exact toNat_lt _ 96 (by decide) (Host.reduce_andi_all _ _ _ _ _ e0 y) (Host.reduce_andi_all _ _ _ _ _ e1 y)

/-- Each block the table names lies inside the image array. -/
theorem ok_of_lt (m : (ℓ : Loc nD τ sig) → Buf (Elt F) ℓ)
    (h : ∀ y : S96x4.Idx, (m (((0 : Dev nD) : Thread nD τ).loc main_arg2) y : BitVec 32).toNat < 96) : Ok (F := F) m := by
  have hw (x : S3x96x4.Idx) (hx : (x 0).val = 0) : (tbl m 0 x : BitVec 32).toNat < 96 := by
    have e : tbl m 0 x = (V m 0 main_v27 : IVec S3x96x4 32) x := rfl
    rw [e, V_table]
    obtain ⟨r, o, i, rfl⟩ : ∃ r o i, x = ix3 r o i := ⟨x 0, x 1, x 2, by funext a; fin_cases a <;> rfl⟩
    have hr : r.val = 0 := hx
    rw [words_apply, if_pos hr]
    exact h _
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    match a with
    | 0 => show (0 + 1) * 4 ≤ 4; omega
    | 2 => show (0 + 1) * 224 ≤ 224; omega
    | 3 => show (0 + 1) * 224 ≤ 224; omega
    | 1 =>
      show (BitVec.toNat (tbl m 0 _) + 1) * 1 ≤ 96
      rw [Nat.mul_one]
      exact Nat.succ_le_of_lt (hw _ rfl)

end Cert.Kernel.Table

end
-- ==== Proof.Cell.lean ====
/- The mathematics of one cell of the result, over the extended reals: a border of zeros around an image, the gate
   polynomial, the tree of three gates and the pooling of four cells. Both programs are read down to these. -/
module

public import Idealize.ShloMosaic.Lib.Pointwise

@[expose] public section

noncomputable section

namespace Cert.Cell

open Idealize.ShloMosaic

/-- The image with one row and one column of zeros around it, at row `r` and column `q`. -/
def border (x : Fin 224 → Fin 224 → Ideal .f32) (r q : Nat) : Ideal .f32 :=
  if h : (1 ≤ r ∧ r - 1 < 224) ∧ 1 ≤ q ∧ q - 1 < 224 then x ⟨r - 1, h.1.2⟩ ⟨q - 1, h.2.2⟩ else 0

/-- A gate of two inputs: the polynomial `c0 + c1 a + c2 b + c3 a b`. -/
def gate (c : Fin 4 → Ideal .f32) (a b : Ideal .f32) : Ideal .f32 :=
  c 0 + c 1 * a + c 2 * b + c 3 * (a * b)

/-- The tree: two gates on the four leaves, and a third gate on the two. -/
def tree (c : Fin 3 → Fin 4 → Ideal .f32) (p : Fin 4 → Ideal .f32) : Ideal .f32 :=
  gate (c 2) (gate (c 0) (p 0) (p 1)) (gate (c 1) (p 2) (p 3))

/-- The pooling of the two by two cells at `(i, j)`: one less the product of their complements. -/
def pool (t : Fin 224 → Fin 224 → Ideal .f32) (i j : Fin 112) : Ideal .f32 :=
  1 - (1 - t ⟨i.val * 2, by omega⟩ ⟨j.val * 2, by omega⟩) * (1 - t ⟨i.val * 2, by omega⟩ ⟨j.val * 2 + 1, by omega⟩)
    * (1 - t ⟨i.val * 2 + 1, by omega⟩ ⟨j.val * 2, by omega⟩)
    * (1 - t ⟨i.val * 2 + 1, by omega⟩ ⟨j.val * 2 + 1, by omega⟩)

end Cert.Cell

end
-- ==== Proof.Leaf.lean ====
/- A leaf of the kernel's body at an index. -/
module

public import proofs.«01_k».proof.Proof.Gen.KernelIdeal.Skeleton
public import proofs.«01_k».proof.Proof.Cell
public import Idealize.ShloMosaic.Lib.WordCmp

@[expose] public section

set_option maxRecDepth 16384

noncomputable section

namespace Cert.KernelIdeal.Body

open Cert.KernelIdeal Cert.KernelIdeal.Gen Cert.Cell
open Idealize.ShloMosaic Idealize.ShloMosaic.TcCoe

/-- A bit of the mask is set exactly when the coordinate and the position word are the two numbers compared with. -/
theorem bit_iff (u : Nat) (hu : u = 0 ∨ u = 223) (v : Nat) (hv : v < 3) (h : Fin 224) (n : Nat) (hn : n < 3) :
    (IntOp.andi (IntOp.cmpi CmpIPredicate.eq (BitVec.ofNat 32 h.val) (BitVec.ofNat 32 u)) (Scalar.cmpi CmpIPredicate.eq (BitVec.ofNat 32 n) (BitVec.ofNat 32 v))) = 1#1
      ↔ h.val = u ∧ n = v := by
  rcases hu with rfl | rfl
  · revert n v h
    decide +kernel
  · revert n v h
    decide +kernel

/-- The four bits joined are set exactly when one of them is. -/
theorem ori_iff (p q r s : BitVec 1) : IntOp.ori (IntOp.ori (IntOp.ori p q) r) s = 1#1 ↔ ((p = 1#1 ∨ q = 1#1) ∨ r = 1#1) ∨ s = 1#1 := by
  revert p q r s
  decide +kernel

/-- Where a rotation by one more than the side less the position word reads, unless it wraps around. -/
theorem turn (n : Nat) (hn : n < 3) (h : Nat) (hh : h < 224) (h1 : 1 ≤ h + n) (h2 : h + n - 1 < 224) :
    (h + 224 - (Scalar.subi (225#32) (BitVec.ofNat 32 n)).toNat % 224) % 224 = h + n - 1 := by
  obtain rfl | rfl | rfl : n = 0 ∨ n = 1 ∨ n = 2 := by omega
  · have e : (Scalar.subi (225#32) (BitVec.ofNat 32 0)).toNat = 225 := by decide +kernel
    rw [e]; omega
  · have e : (Scalar.subi (225#32) (BitVec.ofNat 32 1)).toNat = 224 := by decide +kernel
    rw [e]; omega
  · have e : (Scalar.subi (225#32) (BitVec.ofNat 32 2)).toNat = 223 := by decide +kernel
    rw [e]; omega

/-- The turned image with its wrapped cells masked out is the bordered image, shifted. -/
theorem leaf_cell (x : Fin 224 → Fin 224 → Ideal .f32) (dy dx : BitVec 32) (hy : dy.toNat < 3) (hx : dx.toNat < 3) (h w : Fin 224)
    (p1 : (h.val + 224 - (Scalar.subi (225#32) dy).toNat % 224) % 224 < 224) (p2 : (w.val + 224 - (Scalar.subi (225#32) dx).toNat % 224) % 224 < 224) :
    Scalar.select
      (IntOp.ori
        (IntOp.ori
          (IntOp.ori
            (IntOp.andi (IntOp.cmpi CmpIPredicate.eq (BitVec.ofNat 32 h.val) 0#32) (Scalar.cmpi CmpIPredicate.eq dy 0#32))
            (IntOp.andi (IntOp.cmpi CmpIPredicate.eq (BitVec.ofNat 32 h.val) 223#32) (Scalar.cmpi CmpIPredicate.eq dy 2#32)))
          (IntOp.andi (IntOp.cmpi CmpIPredicate.eq (BitVec.ofNat 32 w.val) 0#32) (Scalar.cmpi CmpIPredicate.eq dx 0#32)))
        (IntOp.andi (IntOp.cmpi CmpIPredicate.eq (BitVec.ofNat 32 w.val) 223#32) (Scalar.cmpi CmpIPredicate.eq dx 2#32)))
      (0 : Ideal .f32)
      (x ⟨(h.val + 224 - (Scalar.subi (225#32) dy).toNat % 224) % 224, p1⟩ ⟨(w.val + 224 - (Scalar.subi (225#32) dx).toNat % 224) % 224, p2⟩)
      = border x (h.val + dy.toNat) (w.val + dx.toNat) := by
  obtain ⟨n, hn, rfl⟩ : ∃ n, n < 3 ∧ dy = BitVec.ofNat 32 n := ⟨dy.toNat, hy, by simp⟩
  obtain ⟨k, hk, rfl⟩ : ∃ n, n < 3 ∧ dx = BitVec.ofNat 32 n := ⟨dx.toNat, hx, by simp⟩
  have en : (BitVec.ofNat 32 n).toNat = n := by rw [BitVec.toNat_ofNat]; exact Nat.mod_eq_of_lt (by omega)
  have ek : (BitVec.ofNat 32 k).toNat = k := by rw [BitVec.toNat_ofNat]; exact Nat.mod_eq_of_lt (by omega)
  rw [en, ek]
  have hh := h.isLt
  have hw := w.isLt
  unfold Scalar.select border
  by_cases hb : (1 ≤ h.val + n ∧ h.val + n - 1 < 224) ∧ 1 ≤ w.val + k ∧ w.val + k - 1 < 224
  · rw [dif_pos hb, if_neg]
    · exact congrArg₂ x (Fin.ext (turn n hn h.val hh hb.1.1 hb.1.2)) (Fin.ext (turn k hk w.val hw hb.2.1 hb.2.2))
    · rw [show (1 : BitVec 1) = 1#1 from rfl, ori_iff, bit_iff 0 (Or.inl rfl) 0 (by omega) h n hn, bit_iff 223 (Or.inr rfl) 2 (by omega) h n hn,
        bit_iff 0 (Or.inl rfl) 0 (by omega) w k hk, bit_iff 223 (Or.inr rfl) 2 (by omega) w k hk]
      omega
  · rw [dif_neg hb, if_pos]
    rw [show (1 : BitVec 1) = 1#1 from rfl, ori_iff, bit_iff 0 (Or.inl rfl) 0 (by omega) h n hn, bit_iff 223 (Or.inr rfl) 2 (by omega) h n hn,
      bit_iff 0 (Or.inl rfl) 0 (by omega) w k hk, bit_iff 223 (Or.inr rfl) 2 (by omega) w k hk]
    omega

/-- Leaf 0 at a cell: the bordered block, shifted by the two position words. -/
theorem leaf0 (dy dx : BitVec 32) (x : FVec Ideal S4x1x224x224 .f32) (b : Fin 4) (h w : Fin 224) (hy : dy.toNat < 3) (hx : dx.toNat < 3) :
    k0_pay3 dy dx x (ix3 b h w) = border (fun r q => x (ix4 b 0 r q)) (h.val + dy.toNat) (w.val + dx.toNat) := by
  pointwise [k0_pay3]
  exact leaf_cell (fun r q => x (ix4 b 0 r q)) dy dx hy hx h w _ _

/-- Leaf 1 at a cell: the bordered block, shifted by the two position words. -/
theorem leaf1 (dy dx : BitVec 32) (x : FVec Ideal S4x1x224x224 .f32) (b : Fin 4) (h w : Fin 224) (hy : dy.toNat < 3) (hx : dx.toNat < 3) :
    k0_pay4 (iota .tc S224x224 32 [0] iota_S224x224_d0_w32) (iota .tc S224x224 32 [1] iota_S224x224_d1_w32) dy dx x (ix3 b h w) = border (fun r q => x (ix4 b 0 r q)) (h.val + dy.toNat) (w.val + dx.toNat) := by
  pointwise [k0_pay4]
  exact leaf_cell (fun r q => x (ix4 b 0 r q)) dy dx hy hx h w _ _

/-- Leaf 2 at a cell: the bordered block, shifted by the two position words. -/
theorem leaf2 (dy dx : BitVec 32) (x : FVec Ideal S4x1x224x224 .f32) (b : Fin 4) (h w : Fin 224) (hy : dy.toNat < 3) (hx : dx.toNat < 3) :
    k0_pay5 (iota .tc S224x224 32 [0] iota_S224x224_d0_w32) (iota .tc S224x224 32 [1] iota_S224x224_d1_w32) dy dx x (ix3 b h w) = border (fun r q => x (ix4 b 0 r q)) (h.val + dy.toNat) (w.val + dx.toNat) := by
  pointwise [k0_pay5]
  exact leaf_cell (fun r q => x (ix4 b 0 r q)) dy dx hy hx h w _ _

/-- Leaf 3 at a cell: the bordered block, shifted by the two position words. -/
theorem leaf3 (dy dx : BitVec 32) (x : FVec Ideal S4x1x224x224 .f32) (b : Fin 4) (h w : Fin 224) (hy : dy.toNat < 3) (hx : dx.toNat < 3) :
    k0_pay6 (iota .tc S224x224 32 [0] iota_S224x224_d0_w32) (iota .tc S224x224 32 [1] iota_S224x224_d1_w32) dy dx x (ix3 b h w) = border (fun r q => x (ix4 b 0 r q)) (h.val + dy.toNat) (w.val + dx.toNat) := by
  pointwise [k0_pay6]
  exact leaf_cell (fun r q => x (ix4 b 0 r q)) dy dx hy hx h w _ _

end Cert.KernelIdeal.Body

end
-- ==== Proof.Pool.lean ====
/- The tree and the pooling of the kernel's body at an index. -/
module

public import proofs.«01_k».proof.Proof.Gen.KernelIdeal.Skeleton
public import proofs.«01_k».proof.Proof.Cell
public import Idealize.ShloMosaic.Lib.WordCmp

@[expose] public section

set_option maxRecDepth 16384

noncomputable section

namespace Cert.KernelIdeal.Body

open Cert.KernelIdeal Cert.KernelIdeal.Gen Cert.Cell
open Idealize.ShloMosaic Idealize.ShloMosaic.TcCoe

/-- A 224 by 112 array that picks the even rows: one where the row is twice the column, zero elsewhere. -/
def Picks (e : FVec Ideal S224x112 .f32) : Prop :=
  ∀ (r : Fin 224) (c : Fin 112), e (ix2 r c) = if r.val = c.val * 2 then 1 else 0

/-- Its first 223 rows, and its last. -/
theorem Picks.parts {e : FVec Ideal S224x112 .f32} (h : Picks e) :
    (∀ (x : Fin 223) (p : x.val < 224) (c : Fin 112), e (ix2 ⟨x.val, p⟩ c) = if x.val = c.val * 2 then 1 else 0) ∧ ∀ c : Fin 112, e (ix2 223 c) = 0 := by
  refine ⟨fun x p c => h _ _, fun c => (h _ _).trans (if_neg ?_)⟩
  have hc := c.isLt
  show ¬ (223 = c.val * 2)
  omega

/-- A sum weighted by one column of such an array is the term picked, the weight on the left. -/
theorem pick (i : Fin 112) (f : Fin 223 → Ideal .f32) :
    ∑ x : Fin 223, (if x.val = i.val * 2 then (1 : Ideal .f32) else 0) * f x = f ⟨i.val * 2, by omega⟩ := by
  rw [Finset.sum_eq_single (⟨i.val * 2, by omega⟩ : Fin 223)]
  · rw [if_pos rfl]; exact one_mul (M := EReal) _
  · intro x _ hx
    rw [if_neg fun h => hx (Fin.ext h)]; exact zero_mul (M₀ := EReal) _
  · intro h; exact absurd (Finset.mem_univ _) h

/-- The same with the weight on the right. -/
theorem pick' (i : Fin 112) (f : Fin 223 → Ideal .f32) :
    ∑ x : Fin 223, f x * (if x.val = i.val * 2 then (1 : Ideal .f32) else 0) = f ⟨i.val * 2, by omega⟩ := by
  rw [← pick i f]
  exact Finset.sum_congr rfl fun x _ => mul_comm (G := EReal) _ _

/-- A sum whose weights are zero is zero, the weight on the left. -/
theorem drop (f : Fin 1 → Ideal .f32) : ∑ x : Fin 1, (0 : Ideal .f32) * f x = 0 :=
  Finset.sum_eq_zero fun x _ => zero_mul (M₀ := EReal) _

/-- The same with the weight on the right. -/
theorem drop' (f : Fin 1 → Ideal .f32) : ∑ x : Fin 1, f x * (0 : Ideal .f32) = 0 :=
  Finset.sum_eq_zero fun x _ => mul_zero (M₀ := EReal) _

/-- One less the product of the four cells of a two by two square. -/
def square (u : Fin 224 → Fin 224 → Ideal .f32) (i j : Fin 112) : Ideal .f32 :=
  1 - u ⟨i.val * 2, by omega⟩ ⟨j.val * 2, by omega⟩ * u ⟨i.val * 2, by omega⟩ ⟨j.val * 2 + 1, by omega⟩
    * u ⟨i.val * 2 + 1, by omega⟩ ⟨j.val * 2, by omega⟩
    * u ⟨i.val * 2 + 1, by omega⟩ ⟨j.val * 2 + 1, by omega⟩

/-- The product taken by rows first and then by columns is the same product. -/
theorem square_eq (u : Fin 224 → Fin 224 → Ideal .f32) (i j : Fin 112) (p1 : i.val * 2 < 224) (p2 : j.val * 2 < 224) (p3 : 1 + i.val * 2 < 224)
    (p4 : 1 + j.val * 2 < 224) :
    1 - u ⟨i.val * 2, p1⟩ ⟨j.val * 2, p2⟩ * u ⟨1 + i.val * 2, p3⟩ ⟨j.val * 2, p2⟩
        * (u ⟨i.val * 2, p1⟩ ⟨1 + j.val * 2, p4⟩ * u ⟨1 + i.val * 2, p3⟩ ⟨1 + j.val * 2, p4⟩)
      = square u i j := by
  unfold square
  have e1 : (⟨1 + i.val * 2, p3⟩ : Fin 224) = ⟨i.val * 2 + 1, by omega⟩ := Fin.ext (Nat.add_comm _ _)
  have e2 : (⟨1 + j.val * 2, p4⟩ : Fin 224) = ⟨j.val * 2 + 1, by omega⟩ := Fin.ext (Nat.add_comm _ _)
  rw [e1, e2]
  generalize u ⟨i.val * 2, p1⟩ ⟨j.val * 2, p2⟩ = a
  generalize u ⟨i.val * 2 + 1, _⟩ ⟨j.val * 2, p2⟩ = b
  generalize u ⟨i.val * 2, p1⟩ ⟨j.val * 2 + 1, _⟩ = c
  generalize u ⟨i.val * 2 + 1, _⟩ ⟨j.val * 2 + 1, _⟩ = d
  refine congrArg (fun z : EReal => (1 : EReal) - z) ?_
  show (a * b * (c * d) : EReal) = a * c * b * d
  ac_rfl

/-- The pooled block of image 1 at a cell. -/
theorem pool1 (u : FVec Ideal S4x224x224 .f32) (er ec : FVec Ideal S224x112 .f32) (hr : Picks er) (hc : Picks ec) (i j : Fin 112) :
    k0_pay21 u er ec (ix4 0 0 i j) = square (fun h w => u (ix3 1 h w)) i j := by
  obtain ⟨r1, r2⟩ := hr.parts
  obtain ⟨c1, c2⟩ := hc.parts
  pointwise [k0_pay21]
  simp only [r1, r2, c1, c2, pick, pick', drop, drop', add_zero]
  exact square_eq (fun h w => u (ix3 1 h w)) i j _ _ _ _

/-- The pooled block of image 2 at a cell. -/
theorem pool2 (u : FVec Ideal S4x224x224 .f32) (er ec : FVec Ideal S224x112 .f32) (hr : Picks er) (hc : Picks ec) (i j : Fin 112) :
    k0_pay1 (k0_pay22 u er ec) (ix4 0 0 i j) = square (fun h w => u (ix3 2 h w)) i j := by
  obtain ⟨r1, r2⟩ := hr.parts
  obtain ⟨c1, c2⟩ := hc.parts
  pointwise [k0_pay1, k0_pay22]
  simp only [r1, r2, c1, c2, pick, pick', drop, drop', add_zero]
  exact square_eq (fun h w => u (ix3 2 h w)) i j _ _ _ _

/-- The pooled block of image 3 at a cell. -/
theorem pool3 (u : FVec Ideal S4x224x224 .f32) (er ec : FVec Ideal S224x112 .f32) (hr : Picks er) (hc : Picks ec) (i j : Fin 112) :
    k0_pay2 u er ec (ix4 0 0 i j) = square (fun h w => u (ix3 3 h w)) i j := by
  obtain ⟨r1, r2⟩ := hr.parts
  obtain ⟨c1, c2⟩ := hc.parts
  pointwise [k0_pay2]
  simp only [r1, r2, c1, c2, pick, pick', drop, drop', add_zero]
  exact square_eq (fun h w => u (ix3 3 h w)) i j _ _ _ _

/-- The pooled block of image 0 at a cell: this one computes its tree inside. -/
theorem pool0 (p2 p3 l m q : FVec Ideal S4x224x224 .f32) (c4 c5 c6 c7 c8 c9 c10 c11 : Ideal .f32) (er ec : FVec Ideal S224x112 .f32) (hr : Picks er) (hc : Picks ec) (i j : Fin 112) :
    k0_pay20 p2 p3 c4 c5 c6 c7 c8 c9 c10 c11 l m q er ec (ix4 0 0 i j) = square (fun h w => k0_pay19 p2 p3 c4 c5 c6 c7 c8 c9 c10 c11 l m q (ix3 0 h w)) i j := by
  obtain ⟨r1, r2⟩ := hr.parts
  obtain ⟨c1, c2⟩ := hc.parts
  unfold k0_pay20
  generalize k0_pay19 p2 p3 c4 c5 c6 c7 c8 c9 c10 c11 l m q = u
  pointwise []
  simp only [r1, r2, c1, c2, pick, pick', drop, drop', add_zero]
  exact square_eq (fun h w => u (ix3 0 h w)) i j _ _ _ _

/-- The complement of the tree at a cell. -/
theorem tree_apply (p0 p1 p2 p3 : FVec Ideal S4x224x224 .f32) (c0 c1 c2 c3 : FVec Ideal S1x1x1 .f32) (c4 c5 c6 c7 c8 c9 c10 c11 : Ideal .f32)
    (b : Fin 4) (h w : Fin 224) (c : Fin 3 → Fin 4 → Ideal .f32) (p : Fin 4 → Ideal .f32)
    (e0 : c 0 0 = c0 (ix3 0 0 0)) (e1 : c 0 1 = c1 (ix3 0 0 0)) (e2 : c 0 2 = c2 (ix3 0 0 0)) (e3 : c 0 3 = c3 (ix3 0 0 0))
    (e4 : c 1 0 = c4) (e5 : c 1 1 = c5) (e6 : c 1 2 = c6) (e7 : c 1 3 = c7)
    (e8 : c 2 0 = c8) (e9 : c 2 1 = c9) (e10 : c 2 2 = c10) (e11 : c 2 3 = c11)
    (l0 : p 0 = p0 (ix3 b h w)) (l1 : p 1 = p1 (ix3 b h w)) (l2 : p 2 = p2 (ix3 b h w)) (l3 : p 3 = p3 (ix3 b h w)) :
    k0_pay19 p2 p3 c4 c5 c6 c7 c8 c9 c10 c11 (k0_pay16 p0 p1 (k0_pay7 c0) c1 c2) (k0_pay17 p0 p1) (k0_pay18 c3) (ix3 b h w) = 1 - tree c p := by
  pointwise [k0_pay19, k0_pay16, k0_pay17, k0_pay18, k0_pay7]
  unfold tree gate
  rw [e0, e1, e2, e3, e4, e5, e6, e7, e8, e9, e10, e11, l0, l1, l2, l3]

end Cert.KernelIdeal.Body

end
-- ==== Proof.RefStages.lean ====
/- The reference, stage by stage, as functions of arrays: the gate weights, the gate coefficients, the padded images, the
   index array of the gather, the two levels of gates and the pooling. Each is the composition of the operations of one
   stretch of the reference program, in its order. -/
module

public import proofs.«01_k».proof.Defs
public import proofs.«01_k».proof.Proof.Gen.ReferenceIdeal

@[expose] public section

set_option maxRecDepth 16384

noncomputable section

namespace Cert.ReferenceIdeal.Stage

open Cert.ReferenceIdeal Cert.ReferenceIdeal.Gen
open Idealize.ShloMosaic Idealize.ShloMosaic.TcCoe

variable {F : FTy → Type} [FloatOps F]

/-- The weights of the 16 gates: the one-hot of the largest, added to and taken back from the softmax. -/
def weights (arg1 : FVec F S96x3x16 .f32) : FVec F S96x3x16 .f32 :=
  let cst_0 : FVec F S_ .f32 := (constant S_ .f32 0x3F800000#32)
  let v1 : FVec F S96x3x16 .f32 := (broadcastInDim S96x3x16 ![] bcast_S_S96x3x16) cst_0
  let v2 : FVec F S96x3x16 .f32 := Host.divf arg1 v1
  let cst_1 : FVec F S_ .f32 := (constant S_ .f32 0xFF800000#32)
  let v3 : FVec F S96x3 .f32 := Host.reduce FloatOps.maximumf v2 cst_1 reducesTo_S96x3x16_S96x3_d2 h_S_
  let cst_2 : FVec F S_ .f32 := (constant S_ .f32 0xFF800000#32)
  let v4 : FVec F S96x3 .f32 := (broadcastInDim S96x3 ![] bcast_S_S96x3) cst_2
  let v5 : FVec F S96x3 .f32 := maximumf v4 v3
  let v6 : FVec F S96x3x1 .f32 := (broadcastInDim S96x3x1 ![0, 1] bcast_S96x3_S96x3x1_0_1) v5
  let v7 : FVec F S96x3x16 .f32 := (broadcastInDim S96x3x16 ![0, 1, 2] bcast_S96x3x1_S96x3x16_0_1_2) v6
  let v8 : FVec F S96x3x16 .f32 := subf v2 v7
  let v9 : FVec F S96x3x16 .f32 := Host.exp v8
  let cst_3 : FVec F S_ .f32 := (constant S_ .f32 0x00000000#32)
  let v10 : FVec F S96x3 .f32 := Host.reduceAdd v9 cst_3 reducesTo_S96x3x16_S96x3_d2 h_S_
  let v11 : FVec F S96x3x1 .f32 := (broadcastInDim S96x3x1 ![0, 1] bcast_S96x3_S96x3x1_0_1) v10
  let v12 : FVec F S96x3x16 .f32 := (broadcastInDim S96x3x16 ![0, 1, 2] bcast_S96x3x1_S96x3x16_0_1_2) v11
  let v13 : FVec F S96x3x16 .f32 := Host.divf v9 v12
  let call1_v0 : IVec S96x3x16 32 := (iotaInDim S96x3x16 32 2)
  let call1_cst : FVec F S_ .f32 := (constant S_ .f32 0xFF800000#32)
  let call1_c : IVec S_ 32 := (constantI S_ 32 0#32)
  let v14 : IVec S96x3 32 := fun j => (Host.argReduce reducer_argmax_f32_i32 arg1 call1_v0 call1_cst call1_c reducesTo_S96x3x16_S96x3_d2 h_S_ j).2
  let call2_v0 : IVec S96x3x1 32 := (broadcastInDim S96x3x1 ![0, 1] bcast_S96x3_S96x3x1_0_1) v14
  let call2_v1 : IVec S1x1x16 32 := (iotaInDim S1x1x16 32 2)
  let call2_v2 : IVec S96x3x16 32 := (broadcastInDim S96x3x16 ![0, 1, 2] bcast_S96x3x1_S96x3x16_0_1_2) call2_v0
  let call2_v3 : IVec S96x3x16 32 := (broadcastInDim S96x3x16 ![0, 1, 2] bcast_S1x1x16_S96x3x16_0_1_2) call2_v1
  let call2_v4 : IVec S96x3x16 1 := (cmpi .eq) call2_v2 call2_v3
  let v15 : FVec F S96x3x16 .f32 := (uitofp .f32) call2_v4
  let v16 : FVec F S96x3x16 .f32 := addf v15 v13
  let v17 : FVec F S96x3x16 .f32 := subf v16 v13
  v17

/-- The gate table: 16 gates by 4 coefficients. -/
def table  : FVec F S16x4 .f32 :=
  let cst : FVec F S16x4 .f32 := (fun i => FloatOps.ofBits .f32 (lit0 (S16x4.rowMajor i)))
  cst

/-- The coefficients of the gate polynomials: the weights times the gate table. -/
def coeffs (v17 : FVec F S96x3x16 .f32) (cst : FVec F S16x4 .f32) : FVec F S96x3x4 .f32 :=
  let v18 : FVec F S96x3x4 .f32 := Host.dotGeneral dot_S96x3x16_S16x4_S96x3x4_2_0_01_1_n_n none v17 cst
  v18

/-- The images with a border of zeros, one wide, around each plane. -/
def padded (arg0 : FVec F S4x96x224x224 .f32) : FVec F S4x96x226x226 .f32 :=
  let c : IVec S_ 32 := (constantI S_ 32 0#32)
  let call0_v0 : FVec F S_ .f32 := (sitofp .f32) c
  let v0 : FVec F S4x96x226x226 .f32 := pad S4x96x226x226 ![0, 0, 1, 1] ![0, 0, 1, 1] ![0, 0, 0, 0] arg0 call0_v0 pads_S4x96x224x224_S4x96x226x226_000_000_110_110 h_S_
  v0

/-- The group of each output kernel, its number divided by 96. -/
def group  : IVec S96 32 :=
  let v19 : IVec S96 32 := (iotaInDim S96 32 0)
  let c_4 : IVec S_ 32 := (constantI S_ 32 96#32)
  let call3_v0 : IVec S_ 32 := id c_4
  let call3_v1 : IVec S96 32 := (broadcastInDim S96 ![] bcast_S_S96) call3_v0
  let call3_v2 : IVec S96 32 := Host.divsi v19 call3_v1
  let call3_v3 : IVec S96 32 := signi v19
  let call3_v4 : IVec S_ 32 := signi call3_v0
  let call3_v5 : IVec S96 32 := (broadcastInDim S96 ![] bcast_S_S96) call3_v4
  let call3_v6 : IVec S96 1 := (cmpi .ne) call3_v3 call3_v5
  let call3_v7 : IVec S96 32 := (broadcastInDim S96 ![] bcast_S_S96) call3_v0
  let call3_v8 : IVec S96 32 := Host.remsi v19 call3_v7
  let call3_c : IVec S_ 32 := (constantI S_ 32 0#32)
  let call3_v9 : IVec S96 32 := (broadcastInDim S96 ![] bcast_S_S96) call3_c
  let call3_v10 : IVec S96 1 := (cmpi .ne) call3_v8 call3_v9
  let call3_v11 : IVec S96 1 := andi call3_v6 call3_v10
  let call3_c_0 : IVec S_ 32 := (constantI S_ 32 1#32)
  let call3_v12 : IVec S96 32 := (broadcastInDim S96 ![] bcast_S_S96) call3_c_0
  let call3_v13 : IVec S96 32 := subi call3_v2 call3_v12
  let v20 : IVec S96 32 := select call3_v11 call3_v13 call3_v2
  v20

/-- The channels, moved by the first channel of the group. -/
def channels (arg2 : IVec S96x4 32) (v20 : IVec S96 32) : IVec S96x4x1x1 32 :=
  let c_5 : IVec S_ 32 := (constantI S_ 32 96#32)
  let v21 : IVec S96 32 := (broadcastInDim S96 ![] bcast_S_S96) c_5
  let v22 : IVec S96 32 := muli v20 v21
  let v23 : IVec S96x1 32 := (broadcastInDim S96x1 ![0] bcast_S96_S96x1_0) v22
  let v24 : IVec S96x4 32 := (broadcastInDim S96x4 ![0, 1] bcast_S96x1_S96x4_0_1) v23
  let v25 : IVec S96x4 32 := addi arg2 v24
  let v42 : IVec S96x4x1x1 32 := (broadcastInDim S96x4x1x1 ![0, 1] bcast_S96x4_S96x4x1x1_0_1) v25
  v42

/-- The rows of the padded images: each output row moved by the row offset. -/
def rows (arg4 : IVec S96x4 32) : IVec S96x4x224x1 32 :=
  let v26 : IVec S224 32 := (iotaInDim S224 32 0)
  let c_6 : IVec S_ 32 := (constantI S_ 32 1#32)
  let v27 : IVec S224 32 := (broadcastInDim S224 ![] bcast_S_S224) c_6
  let v28 : IVec S224 32 := muli v26 v27
  let v32 : IVec S1x1x224 32 := (broadcastInDim S1x1x224 ![2] bcast_S224_S1x1x224_2) v28
  let v33 : IVec S96x4x1 32 := (broadcastInDim S96x4x1 ![0, 1] bcast_S96x4_S96x4x1_0_1) arg4
  let v34 : IVec S96x4x224 32 := (broadcastInDim S96x4x224 ![0, 1, 2] bcast_S1x1x224_S96x4x224_0_1_2) v32
  let v35 : IVec S96x4x224 32 := (broadcastInDim S96x4x224 ![0, 1, 2] bcast_S96x4x1_S96x4x224_0_1_2) v33
  let v36 : IVec S96x4x224 32 := addi v34 v35
  let v43 : IVec S96x4x224x1 32 := (broadcastInDim S96x4x224x1 ![0, 1, 2] bcast_S96x4x224_S96x4x224x1_0_1_2) v36
  v43

/-- The columns of the padded images: each output column moved by the column offset. -/
def columns (arg3 : IVec S96x4 32) : IVec S96x4x1x224 32 :=
  let v29 : IVec S224 32 := (iotaInDim S224 32 0)
  let c_7 : IVec S_ 32 := (constantI S_ 32 1#32)
  let v30 : IVec S224 32 := (broadcastInDim S224 ![] bcast_S_S224) c_7
  let v31 : IVec S224 32 := muli v29 v30
  let v37 : IVec S1x1x224 32 := (broadcastInDim S1x1x224 ![2] bcast_S224_S1x1x224_2) v31
  let v38 : IVec S96x4x1 32 := (broadcastInDim S96x4x1 ![0, 1] bcast_S96x4_S96x4x1_0_1) arg3
  let v39 : IVec S96x4x224 32 := (broadcastInDim S96x4x224 ![0, 1, 2] bcast_S1x1x224_S96x4x224_0_1_2) v37
  let v40 : IVec S96x4x224 32 := (broadcastInDim S96x4x224 ![0, 1, 2] bcast_S96x4x1_S96x4x224_0_1_2) v38
  let v41 : IVec S96x4x224 32 := addi v39 v40
  let v44 : IVec S96x4x1x224 32 := (broadcastInDim S96x4x1x224 ![0, 1, 3] bcast_S96x4x224_S96x4x1x224_0_1_3) v41
  v44

/-- The channels, a negative one counted from the end, at every cell. -/
def channelIndex (v42 : IVec S96x4x1x1 32) : IVec S96x4x224x224x1 32 :=
  let c_8 : IVec S_ 32 := (constantI S_ 32 0#32)
  let v45 : IVec S96x4x1x1 32 := (broadcastInDim S96x4x1x1 ![] bcast_S_S96x4x1x1) c_8
  let v46 : IVec S96x4x1x1 1 := (cmpi .slt) v42 v45
  let c_9 : IVec S_ 32 := (constantI S_ 32 96#32)
  let v47 : IVec S96x4x1x1 32 := (broadcastInDim S96x4x1x1 ![] bcast_S_S96x4x1x1) c_9
  let v48 : IVec S96x4x1x1 32 := addi v42 v47
  let v49 : IVec S96x4x1x1 32 := select v46 v48 v42
  let v60 : IVec S96x4x224x224 32 := (broadcastInDim S96x4x224x224 ![0, 1, 2, 3] bcast_S96x4x1x1_S96x4x224x224_0_1_2_3) v49
  let v63 : IVec S96x4x224x224x1 32 := (broadcastInDim S96x4x224x224x1 ![0, 1, 2, 3] bcast_S96x4x224x224_S96x4x224x224x1_0_1_2_3) v60
  v63

/-- The rows, a negative one counted from the end, at every cell. -/
def rowIndex (v43 : IVec S96x4x224x1 32) : IVec S96x4x224x224x1 32 :=
  let c_10 : IVec S_ 32 := (constantI S_ 32 0#32)
  let v50 : IVec S96x4x224x1 32 := (broadcastInDim S96x4x224x1 ![] bcast_S_S96x4x224x1) c_10
  let v51 : IVec S96x4x224x1 1 := (cmpi .slt) v43 v50
  let c_11 : IVec S_ 32 := (constantI S_ 32 226#32)
  let v52 : IVec S96x4x224x1 32 := (broadcastInDim S96x4x224x1 ![] bcast_S_S96x4x224x1) c_11
  let v53 : IVec S96x4x224x1 32 := addi v43 v52
  let v54 : IVec S96x4x224x1 32 := select v51 v53 v43
  let v61 : IVec S96x4x224x224 32 := (broadcastInDim S96x4x224x224 ![0, 1, 2, 3] bcast_S96x4x224x1_S96x4x224x224_0_1_2_3) v54
  let v64 : IVec S96x4x224x224x1 32 := (broadcastInDim S96x4x224x224x1 ![0, 1, 2, 3] bcast_S96x4x224x224_S96x4x224x224x1_0_1_2_3) v61
  v64

/-- The columns, a negative one counted from the end, at every cell. -/
def columnIndex (v44 : IVec S96x4x1x224 32) : IVec S96x4x224x224x1 32 :=
  let c_12 : IVec S_ 32 := (constantI S_ 32 0#32)
  let v55 : IVec S96x4x1x224 32 := (broadcastInDim S96x4x1x224 ![] bcast_S_S96x4x1x224) c_12
  let v56 : IVec S96x4x1x224 1 := (cmpi .slt) v44 v55
  let c_13 : IVec S_ 32 := (constantI S_ 32 226#32)
  let v57 : IVec S96x4x1x224 32 := (broadcastInDim S96x4x1x224 ![] bcast_S_S96x4x1x224) c_13
  let v58 : IVec S96x4x1x224 32 := addi v44 v57
  let v59 : IVec S96x4x1x224 32 := select v56 v58 v44
  let v62 : IVec S96x4x224x224 32 := (broadcastInDim S96x4x224x224 ![0, 1, 2, 3] bcast_S96x4x1x224_S96x4x224x224_0_1_2_3) v59
  let v65 : IVec S96x4x224x224x1 32 := (broadcastInDim S96x4x224x224x1 ![0, 1, 2, 3] bcast_S96x4x224x224_S96x4x224x224x1_0_1_2_3) v62
  v65

/-- The indices of the gather: channel, row and column of the padded images. -/
def indices (v63 : IVec S96x4x224x224x1 32) (v64 : IVec S96x4x224x224x1 32) (v65 : IVec S96x4x224x224x1 32) : IVec S96x4x224x224x3 32 :=
  let v66 : IVec S96x4x224x224x3 32 := concatenate S96x4x224x224x3 4 [⟨S96x4x224x224x1, v63⟩, ⟨S96x4x224x224x1, v64⟩, ⟨S96x4x224x224x1, v65⟩] concatenates_S96x4x224x224x1_S96x4x224x224x1_S96x4x224x224x1_S96x4x224x224x3_d4
  v66

/-- The four leaves of each output kernel, shifted. -/
def leaves (v0 : FVec F S4x96x226x226 .f32) (v66 : IVec S96x4x224x224x3 32) : FVec F S4x96x4x224x224 .f32 :=
  let v67 : FVec F S4x96x4x224x224 .f32 := Host.gather gather_S4x96x226x226_S96x4x224x224x3_S4x96x4x224x224_0_123_n_n_123_4_4111 v0 v66
  v67

/-- The two gates of the first level. -/
def gates1 (v18 : FVec F S96x3x4 .f32) (v67 : FVec F S4x96x4x224x224 .f32) : FVec F S4x96x2x224x224 .f32 :=
  let v68 : FVec F S4x96x2x224x224 .f32 := Host.slice S4x96x2x224x224 ![0, 0, 0, 0, 0] ![1, 1, 2, 1, 1] v67 slicesBy_S4x96x4x224x224_S4x96x2x224x224_0s1_0s1_0s2_0s1_0s1
  let v69 : FVec F S4x96x2x224x224 .f32 := Host.slice S4x96x2x224x224 ![0, 0, 1, 0, 0] ![1, 1, 2, 1, 1] v67 slicesBy_S4x96x4x224x224_S4x96x2x224x224_0s1_0s1_1s2_0s1_0s1
  let v70 : FVec F S96x2x4 .f32 := extractStridedSlice S96x2x4 ![0, 0, 0] v18 slices_S96x3x4_S96x2x4_0_0_0
  let v71 : FVec F S96x2x1 .f32 := extractStridedSlice S96x2x1 ![0, 0, 0] v70 slices_S96x2x4_S96x2x1_0_0_0
  let v72 : FVec F S96x2 .f32 := shapeCast S96x2 v71 shapeCasts_S96x2x1_S96x2
  let v73 : FVec F S1x96x2x1x1 .f32 := (broadcastInDim S1x96x2x1x1 ![1, 2] bcast_S96x2_S1x96x2x1x1_1_2) v72
  let v74 : FVec F S96x2x1 .f32 := extractStridedSlice S96x2x1 ![0, 0, 1] v70 slices_S96x2x4_S96x2x1_0_0_1
  let v75 : FVec F S96x2 .f32 := shapeCast S96x2 v74 shapeCasts_S96x2x1_S96x2
  let v76 : FVec F S1x96x2x1x1 .f32 := (broadcastInDim S1x96x2x1x1 ![1, 2] bcast_S96x2_S1x96x2x1x1_1_2) v75
  let v77 : FVec F S96x2x1 .f32 := extractStridedSlice S96x2x1 ![0, 0, 2] v70 slices_S96x2x4_S96x2x1_0_0_2
  let v78 : FVec F S96x2 .f32 := shapeCast S96x2 v77 shapeCasts_S96x2x1_S96x2
  let v79 : FVec F S1x96x2x1x1 .f32 := (broadcastInDim S1x96x2x1x1 ![1, 2] bcast_S96x2_S1x96x2x1x1_1_2) v78
  let v80 : FVec F S96x2x1 .f32 := extractStridedSlice S96x2x1 ![0, 0, 3] v70 slices_S96x2x4_S96x2x1_0_0_3
  let v81 : FVec F S96x2 .f32 := shapeCast S96x2 v80 shapeCasts_S96x2x1_S96x2
  let v82 : FVec F S1x96x2x1x1 .f32 := (broadcastInDim S1x96x2x1x1 ![1, 2] bcast_S96x2_S1x96x2x1x1_1_2) v81
  let v83 : FVec F S4x96x2x224x224 .f32 := (broadcastInDim S4x96x2x224x224 ![0, 1, 2, 3, 4] bcast_S1x96x2x1x1_S4x96x2x224x224_0_1_2_3_4) v76
  let v84 : FVec F S4x96x2x224x224 .f32 := mulf v83 v68
  let v85 : FVec F S4x96x2x224x224 .f32 := (broadcastInDim S4x96x2x224x224 ![0, 1, 2, 3, 4] bcast_S1x96x2x1x1_S4x96x2x224x224_0_1_2_3_4) v73
  let v86 : FVec F S4x96x2x224x224 .f32 := addf v85 v84
  let v87 : FVec F S4x96x2x224x224 .f32 := (broadcastInDim S4x96x2x224x224 ![0, 1, 2, 3, 4] bcast_S1x96x2x1x1_S4x96x2x224x224_0_1_2_3_4) v79
  let v88 : FVec F S4x96x2x224x224 .f32 := mulf v87 v69
  let v89 : FVec F S4x96x2x224x224 .f32 := addf v86 v88
  let v90 : FVec F S4x96x2x224x224 .f32 := mulf v68 v69
  let v91 : FVec F S4x96x2x224x224 .f32 := (broadcastInDim S4x96x2x224x224 ![0, 1, 2, 3, 4] bcast_S1x96x2x1x1_S4x96x2x224x224_0_1_2_3_4) v82
  let v92 : FVec F S4x96x2x224x224 .f32 := mulf v91 v90
  let v93 : FVec F S4x96x2x224x224 .f32 := addf v89 v92
  v93

/-- The gate of the second level. -/
def gate2 (v18 : FVec F S96x3x4 .f32) (v93 : FVec F S4x96x2x224x224 .f32) : FVec F S4x96x1x224x224 .f32 :=
  let v94 : FVec F S4x96x1x224x224 .f32 := Host.slice S4x96x1x224x224 ![0, 0, 0, 0, 0] ![1, 1, 2, 1, 1] v93 slicesBy_S4x96x2x224x224_S4x96x1x224x224_0s1_0s1_0s2_0s1_0s1
  let v95 : FVec F S4x96x1x224x224 .f32 := Host.slice S4x96x1x224x224 ![0, 0, 1, 0, 0] ![1, 1, 2, 1, 1] v93 slicesBy_S4x96x2x224x224_S4x96x1x224x224_0s1_0s1_1s2_0s1_0s1
  let v96 : FVec F S96x1x4 .f32 := extractStridedSlice S96x1x4 ![0, 2, 0] v18 slices_S96x3x4_S96x1x4_0_2_0
  let v97 : FVec F S96x1x1 .f32 := extractStridedSlice S96x1x1 ![0, 0, 0] v96 slices_S96x1x4_S96x1x1_0_0_0
  let v98 : FVec F S96x1 .f32 := shapeCast S96x1 v97 shapeCasts_S96x1x1_S96x1
  let v99 : FVec F S1x96x1x1x1 .f32 := (broadcastInDim S1x96x1x1x1 ![1, 2] bcast_S96x1_S1x96x1x1x1_1_2) v98
  let v100 : FVec F S96x1x1 .f32 := extractStridedSlice S96x1x1 ![0, 0, 1] v96 slices_S96x1x4_S96x1x1_0_0_1
  let v101 : FVec F S96x1 .f32 := shapeCast S96x1 v100 shapeCasts_S96x1x1_S96x1
  let v102 : FVec F S1x96x1x1x1 .f32 := (broadcastInDim S1x96x1x1x1 ![1, 2] bcast_S96x1_S1x96x1x1x1_1_2) v101
  let v103 : FVec F S96x1x1 .f32 := extractStridedSlice S96x1x1 ![0, 0, 2] v96 slices_S96x1x4_S96x1x1_0_0_2
  let v104 : FVec F S96x1 .f32 := shapeCast S96x1 v103 shapeCasts_S96x1x1_S96x1
  let v105 : FVec F S1x96x1x1x1 .f32 := (broadcastInDim S1x96x1x1x1 ![1, 2] bcast_S96x1_S1x96x1x1x1_1_2) v104
  let v106 : FVec F S96x1x1 .f32 := extractStridedSlice S96x1x1 ![0, 0, 3] v96 slices_S96x1x4_S96x1x1_0_0_3
  let v107 : FVec F S96x1 .f32 := shapeCast S96x1 v106 shapeCasts_S96x1x1_S96x1
  let v108 : FVec F S1x96x1x1x1 .f32 := (broadcastInDim S1x96x1x1x1 ![1, 2] bcast_S96x1_S1x96x1x1x1_1_2) v107
  let v109 : FVec F S4x96x1x224x224 .f32 := (broadcastInDim S4x96x1x224x224 ![0, 1, 2, 3, 4] bcast_S1x96x1x1x1_S4x96x1x224x224_0_1_2_3_4) v102
  let v110 : FVec F S4x96x1x224x224 .f32 := mulf v109 v94
  let v111 : FVec F S4x96x1x224x224 .f32 := (broadcastInDim S4x96x1x224x224 ![0, 1, 2, 3, 4] bcast_S1x96x1x1x1_S4x96x1x224x224_0_1_2_3_4) v99
  let v112 : FVec F S4x96x1x224x224 .f32 := addf v111 v110
  let v113 : FVec F S4x96x1x224x224 .f32 := (broadcastInDim S4x96x1x224x224 ![0, 1, 2, 3, 4] bcast_S1x96x1x1x1_S4x96x1x224x224_0_1_2_3_4) v105
  let v114 : FVec F S4x96x1x224x224 .f32 := mulf v113 v95
  let v115 : FVec F S4x96x1x224x224 .f32 := addf v112 v114
  let v116 : FVec F S4x96x1x224x224 .f32 := mulf v94 v95
  let v117 : FVec F S4x96x1x224x224 .f32 := (broadcastInDim S4x96x1x224x224 ![0, 1, 2, 3, 4] bcast_S1x96x1x1x1_S4x96x1x224x224_0_1_2_3_4) v108
  let v118 : FVec F S4x96x1x224x224 .f32 := mulf v117 v116
  let v119 : FVec F S4x96x1x224x224 .f32 := addf v115 v118
  v119

/-- The pooling of two by two cells: one less the product of the four complements. -/
def pooled (v119 : FVec F S4x96x1x224x224 .f32) : FVec F S4x96x112x112 .f32 :=
  let v120 : FVec F S4x96x224x224 .f32 := shapeCast S4x96x224x224 v119 shapeCasts_S4x96x1x224x224_S4x96x224x224
  let v121 : FVec F S4x96x112x2x112x2 .f32 := shapeCast S4x96x112x2x112x2 v120 shapeCasts_S4x96x224x224_S4x96x112x2x112x2
  let cst_14 : FVec F S_ .f32 := (constant S_ .f32 0x3F800000#32)
  let v122 : FVec F S4x96x112x2x112x2 .f32 := (broadcastInDim S4x96x112x2x112x2 ![] bcast_S_S4x96x112x2x112x2) cst_14
  let v123 : FVec F S4x96x112x2x112x2 .f32 := subf v122 v121
  let v124 : FVec F S4x96x112x1x112x1 .f32 := extractStridedSlice S4x96x112x1x112x1 ![0, 0, 0, 0, 0, 0] v123 slices_S4x96x112x2x112x2_S4x96x112x1x112x1_0_0_0_0_0_0
  let v125 : FVec F S4x96x112x112 .f32 := shapeCast S4x96x112x112 v124 shapeCasts_S4x96x112x1x112x1_S4x96x112x112
  let v126 : FVec F S4x96x112x1x112x1 .f32 := extractStridedSlice S4x96x112x1x112x1 ![0, 0, 0, 0, 0, 1] v123 slices_S4x96x112x2x112x2_S4x96x112x1x112x1_0_0_0_0_0_1
  let v127 : FVec F S4x96x112x112 .f32 := shapeCast S4x96x112x112 v126 shapeCasts_S4x96x112x1x112x1_S4x96x112x112
  let v128 : FVec F S4x96x112x112 .f32 := mulf v125 v127
  let v129 : FVec F S4x96x112x1x112x1 .f32 := extractStridedSlice S4x96x112x1x112x1 ![0, 0, 0, 1, 0, 0] v123 slices_S4x96x112x2x112x2_S4x96x112x1x112x1_0_0_0_1_0_0
  let v130 : FVec F S4x96x112x112 .f32 := shapeCast S4x96x112x112 v129 shapeCasts_S4x96x112x1x112x1_S4x96x112x112
  let v131 : FVec F S4x96x112x112 .f32 := mulf v128 v130
  let v132 : FVec F S4x96x112x1x112x1 .f32 := extractStridedSlice S4x96x112x1x112x1 ![0, 0, 0, 1, 0, 1] v123 slices_S4x96x112x2x112x2_S4x96x112x1x112x1_0_0_0_1_0_1
  let v133 : FVec F S4x96x112x112 .f32 := shapeCast S4x96x112x112 v132 shapeCasts_S4x96x112x1x112x1_S4x96x112x112
  let v134 : FVec F S4x96x112x112 .f32 := mulf v131 v133
  let cst_15 : FVec F S_ .f32 := (constant S_ .f32 0x3F800000#32)
  let v135 : FVec F S4x96x112x112 .f32 := (broadcastInDim S4x96x112x112 ![] bcast_S_S4x96x112x112) cst_15
  let v136 : FVec F S4x96x112x112 .f32 := subf v135 v134
  v136

end Cert.ReferenceIdeal.Stage

end
-- ==== Proof.HostIdeal.lean ====
/- What the kernel's host part hands to its inner kernel, at an index: the coefficients and the two arrays that pick the even rows. -/
module

public import proofs.«01_k».proof.Proof.Gen.KernelIdeal.Frame
public import proofs.«01_k».proof.Proof.Pool
public import proofs.«01_k».proof.Proof.RefStages
public import Idealize.ShloMosaic.Lib.WordCmp
public import Idealize.ShloMosaic.Lib.Claim

@[expose] public section

set_option maxRecDepth 16384

noncomputable section

namespace Cert.KernelIdeal.Host

open Cert.KernelIdeal Cert.KernelIdeal.Gen Cert.KernelIdeal.Body
open Idealize.ShloMosaic Idealize.ShloMosaic.TcCoe

/-- The array that picks the even rows: one where the row number is twice the column number. -/
def evens : FVec Ideal S224x112 .f32 :=
  uitofp .f32 (cmpi .eq (broadcastInDim S224x112 ![0, 1] bcast_S224x1_S224x112_0_1 (broadcastInDim S224x1 ![0] bcast_S224_S224x1_0 (iotaInDim S224 32 0)))
    (broadcastInDim S224x112 ![0, 1] bcast_S1x112_S224x112_0_1
      (muli (broadcastInDim S1x112 ![] bcast_S_S1x112 (constantI S_ 32 2#32)) (broadcastInDim S1x112 ![1] bcast_S112_S1x112_1 (iotaInDim S112 32 0)))))

/-- A row number compared with twice a column number, as a word. -/
theorem even_iff (r : Fin 224) (k : Fin 112) :
    (IntOp.cmpi CmpIPredicate.eq (BitVec.ofNat 32 r.val) (IntOp.muli 2#32 (BitVec.ofNat 32 k.val))) = if r.val = k.val * 2 then 1#1 else 0#1 := by
  revert r k
  decide +kernel

/-- It picks the even rows. -/
theorem evens_picks : Picks evens := by
  intro r k
  pointwise [evens]
  rw [even_iff]
  by_cases h : r.val = k.val * 2
  · rw [if_pos h, if_pos h]
    show ((((1#1 : BitVec 1).toNat : ℝ) : EReal)) = 1
    simp
  · rw [if_neg h, if_neg h]
    show ((((0#1 : BitVec 1).toNat : ℝ) : EReal)) = 0
    simp

/-- The first of the two arrays the host part hands on. -/
theorem V_rows (m : (ℓ : Loc nD τ sig) → Buf (Elt Ideal) ℓ) (c : Dev nD) : V m c main_v37 = evens := by
  entry_read
  rfl

/-- The second. -/
theorem V_columns (m : (ℓ : Loc nD τ sig) → Buf (Elt Ideal) ℓ) (c : Dev nD) : V m c main_v47 = evens := by
  entry_read
  rfl

/-- The images reach the inner kernel as they are. -/
theorem V_image (m : (ℓ : Loc nD τ sig) → Buf (Elt Ideal) ℓ) (c : Dev nD) : V m c main_arg0 = m ((c : Thread nD τ).loc main_arg0) := by
  entry_read
  rfl

/-- The coefficients as the host part lays them out, twelve to an output kernel. -/
def coeffs (w : FVec Ideal S96x3x16 .f32) : FVec Ideal S96x1x12 .f32 :=
  shapeCast S96x1x12 (Host.reduceAdd
    (mulf (broadcastInDim S96x3x16x4 ![0, 1, 2, 3] bcast_S96x3x16x1_S96x3x16x4_0_1_2_3 (broadcastInDim S96x3x16x1 ![0, 1, 2] bcast_S96x3x16_S96x3x16x1_0_1_2 w))
      (broadcastInDim S96x3x16x4 ![0, 1, 2, 3] bcast_S1x1x16x4_S96x3x16x4_0_1_2_3
        (broadcastInDim S1x1x16x4 ![2, 3] bcast_S16x4_S1x1x16x4_2_3 (Cert.ReferenceIdeal.Stage.table (F := Ideal)))))
    (constant S_ .f32 0x00000000#32) reducesTo_S96x3x16x4_S96x3x4_d2 h_S_) shapeCasts_S96x3x4_S96x1x12

/-- A coefficient: the sum over the 16 gates. -/
theorem coeffs_apply (w : FVec Ideal S96x3x16 .f32) (o : Fin 96) (g : Fin 3) (c : Fin 4) :
    coeffs w (ix3 o 0 ⟨4 * g.val + c.val, by omega⟩) = ∑ x : Fin 16, w (ix3 o g x) * Cert.ReferenceIdeal.Stage.table (F := Ideal) (ix2 x c) := by
  unfold coeffs
  generalize Cert.ReferenceIdeal.Stage.table (F := Ideal) = t
  pointwise []

/-- The coefficients the host part hands on. -/
theorem V_coeffs (m : (ℓ : Loc nD τ sig) → Buf (Elt Ideal) ℓ) (c : Dev nD) :
    V m c main_v23 = coeffs (Cert.ReferenceIdeal.Stage.weights (F := Ideal) (m ((c : Thread nD τ).loc main_arg1))) := by
  entry_read
  rfl

end Cert.KernelIdeal.Host

end
-- ==== Proof.TableIdeal.lean ====
/- The table the idealized kernel prefetches: three planes of 96 by 4 words, the channels, the row offsets and the column
   offsets of each output kernel's four leaves. Its words are the integer arguments' words, and when the channels lie in
   [0, 96) every block that the table names lies inside the image array. -/
module

public import proofs.«01_k».proof.Defs
public import proofs.«01_k».proof.Proof.Gen.KernelIdeal.Frame
public import proofs.«01_k».proof.Proof.Gen.Pre_channels_in_range
public import proofs.«01_k».proof.Proof.Gen.Pre_in_range
public import Idealize.ShloMosaic.Lib.Claim
public import Idealize.ShloMosaic.Lib.Pointwise
public import Idealize.ShloMosaic.Lib.ReduceAll
public import Idealize.ShloMosaic.Lib.WordCmp

@[expose] public section

set_option maxRecDepth 16384

noncomputable section

namespace Cert.KernelIdeal.Table

open Cert.KernelIdeal Cert.KernelIdeal.Gen
open Idealize.ShloMosaic Idealize.ShloMosaic.TcCoe Idealize.SL.Sem

variable {F : FTy → Type} [FloatOps F]

/-- The three integer arguments laid one above the other. -/
def words (a2 a4 a3 : IVec S96x4 32) : IVec S3x96x4 32 :=
  concatenate S3x96x4 0
    [⟨S1x96x4, broadcastInDim S1x96x4 ![1, 2] bcast_S96x4_S1x96x4_1_2 a2⟩,
     ⟨S1x96x4, broadcastInDim S1x96x4 ![1, 2] bcast_S96x4_S1x96x4_1_2 a4⟩,
     ⟨S1x96x4, broadcastInDim S1x96x4 ![1, 2] bcast_S96x4_S1x96x4_1_2 a3⟩]
    concatenates_S1x96x4_S1x96x4_S1x96x4_S3x96x4_d0

/-- A word of the table, by its plane. -/
theorem words_apply (a2 a4 a3 : IVec S96x4 32) (r : Fin 3) (o : Fin 96) (i : Fin 4) :
    words a2 a4 a3 (ix3 r o i) = if r.val = 0 then a2 (ix2 o i) else if r.val = 1 then a4 (ix2 o i) else a3 (ix2 o i) := by
  pointwise [words]
  have hr := r.isLt
  by_cases h0 : r.val = 0
  · rw [dif_pos (by omega), if_pos h0]
  by_cases h1 : r.val = 1
  · rw [dif_neg (by omega), dif_pos (by omega), if_neg h0, if_pos h1]
  · rw [dif_neg (by omega), dif_neg (by omega), if_neg h0, if_neg h1]

/-- The table as the region finds it. -/
theorem V_table (m : (ℓ : Loc nD τ sig) → Buf (Elt F) ℓ) (c : Dev nD) :
    V m c main_v27 = words (m ((c : Thread nD τ).loc main_arg2)) (m ((c : Thread nD τ).loc main_arg4)) (m ((c : Thread nD τ).loc main_arg3)) := by
  entry_read
  rfl

/-- A word read signed in [0, 96) is a natural number below 96. -/
theorem toNat_lt (x : BitVec 32) (n : Nat) (hn : n < 2147483648) (h0 : IntOp.cmpi .sge x 0#32 = 1#1) (h1 : IntOp.cmpi .slt x (BitVec.ofNat 32 n) = 1#1) :
    x.toNat < n := by
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at h0 h1
  have := x.isLt
  have hm : n % 4294967296 = n := Nat.mod_eq_of_lt (by omega)
  simp only [Nat.reducePow, hm] at *
  split at h0 <;> split at h1 <;> simp_all <;> omega

/-- The range of the channels, from the precondition. -/
theorem channel_lt (m : (ℓ : Loc nD τ sig) → Buf (Elt Ideal) ℓ) (h : Cert.Pre_KernelIdeal m) (c : Dev nD) (y : S96x4.Idx) :
    (m ((c : Thread nD τ).loc main_arg2) y : BitVec 32).toNat < 96 := by
  have andi_one (a b : BitVec 1) : IntOp.andi a b = 1#1 ↔ a = 1#1 ∧ b = 1#1 := by revert a b; decide
  have e := congrFun (h c) (fun a => a.elim0)
  dsimp only [Cert.Pre_channels_in_range.fn, andi] at e
  obtain ⟨e0, e1⟩ := (andi_one _ _).1 e
  exact toNat_lt _ 96 (by decide) (Host.reduce_andi_all _ _ _ _ _ e0 y) (Host.reduce_andi_all _ _ _ _ _ e1 y)

/-- The ranges of the channels and of the two offsets, from the longer precondition. -/
theorem in_range_lt (m : (ℓ : Loc nD τ sig) → Buf (Elt Ideal) ℓ) (h : Cert.Pre_KernelIdeal_in_range m) (c : Dev nD) (y : S96x4.Idx) :
    (m ((c : Thread nD τ).loc main_arg2) y : BitVec 32).toNat < 96 ∧ (m ((c : Thread nD τ).loc main_arg3) y : BitVec 32).toNat < 3
      ∧ (m ((c : Thread nD τ).loc main_arg4) y : BitVec 32).toNat < 3 := by
  have andi_one (a b : BitVec 1) : IntOp.andi a b = 1#1 ↔ a = 1#1 ∧ b = 1#1 := by revert a b; decide
  have e := congrFun (h c) (fun a => a.elim0)
  dsimp only [Cert.Pre_in_range.fn, Cert.Pre_in_range.fn_part1, andi] at e
  simp only [andi_one] at e
  obtain ⟨⟨⟨⟨⟨e0, e1⟩, e2⟩, e3⟩, e4⟩, e5⟩ := e
  exact ⟨toNat_lt _ 96 (by decide) (Host.reduce_andi_all _ _ _ _ _ e0 y) (Host.reduce_andi_all _ _ _ _ _ e1 y),
    toNat_lt _ 3 (by decide) (Host.reduce_andi_all _ _ _ _ _ e2 y) (Host.reduce_andi_all _ _ _ _ _ e3 y),
    toNat_lt _ 3 (by decide) (Host.reduce_andi_all _ _ _ _ _ e4 y) (Host.reduce_andi_all _ _ _ _ _ e5 y)⟩

/-- Each block the table names lies inside the image array. -/
theorem ok_of_lt (m : (ℓ : Loc nD τ sig) → Buf (Elt F) ℓ)
    (h : ∀ y : S96x4.Idx, (m (((0 : Dev nD) : Thread nD τ).loc main_arg2) y : BitVec 32).toNat < 96) : Ok (F := F) m := by
  have hw (x : S3x96x4.Idx) (hx : (x 0).val = 0) : (tbl m 0 x : BitVec 32).toNat < 96 := by
    have e : tbl m 0 x = (V m 0 main_v27 : IVec S3x96x4 32) x := rfl
    rw [e, V_table]
    obtain ⟨r, o, i, rfl⟩ : ∃ r o i, x = ix3 r o i := ⟨x 0, x 1, x 2, by funext a; fin_cases a <;> rfl⟩
    have hr : r.val = 0 := hx
    rw [words_apply, if_pos hr]
    exact h _
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    match a with
    | 0 => show (0 + 1) * 4 ≤ 4; omega
    | 2 => show (0 + 1) * 224 ≤ 224; omega
    | 3 => show (0 + 1) * 224 ≤ 224; omega
    | 1 =>
      show (BitVec.toNat (tbl m 0 _) + 1) * 1 ≤ 96
      rw [Nat.mul_one]
      exact Nat.succ_le_of_lt (hw _ rfl)

end Cert.KernelIdeal.Table

end
-- ==== Proof.Block.lean ====
/- The blocks that the windows of the inner kernel show at a grid point. -/
module

public import proofs.«01_k».proof.Proof.Leaf
public import proofs.«01_k».proof.Proof.HostIdeal
public import proofs.«01_k».proof.Proof.TableIdeal
public import Idealize.ShloMosaic.Lib.Pipeline.ValueKit

@[expose] public section

set_option maxRecDepth 16384

noncomputable section

namespace Cert.KernelIdeal.Block

open Cert.KernelIdeal Cert.KernelIdeal.Gen Cert.KernelIdeal.Body Cert.Cell
open Idealize.ShloMosaic Idealize.ShloMosaic.TcCoe Idealize.SL.Sem

variable (m : (ℓ : Loc nD τ sig) → Buf (Elt Ideal) ℓ)

/-- A word the body reads from the table. -/
theorem word_read (off : Fin 3 → Nat) (inb : ∀ a, off a + S1x1x1.size a ≤ S3x96x4.size a) (p : 0 < S1x1x1.numel) (T : IVec S3x96x4 32) (r : Fin 3) (o : Fin 96) (k : Fin 4)
    (h0 : off 0 = r.val) (h1 : off 1 = o.val) (h2 : off 2 = k.val) :
    View.ld (View.read (Elt Ideal) (View.whole main_v27) T) (Rect.unit (s := S3x96x4) off ![1, 1, 1] inb) (Shape.Idx.first p) = T (ix3 r o k) := by
  refine congrArg T (funext fun a => Fin.ext ?_)
  match a with
  | ⟨0, _⟩ => exact h0
  | ⟨1, _⟩ => exact h1
  | ⟨2, _⟩ => exact h2

/-- The one grid coordinate of a point is its number. -/
theorem coord : ∀ t : Fin grid0.N, (Scalar.indexCast (BitVec.ofNat 32 ((grid0.coords t) 0).val)).toNat = t.val := by decide +kernel

/-- A word that an index map reads from the table: the channel word of its leaf. -/
theorem channel_word (T : pre0.Contents (Elt Ideal)) (off : Fin 3 → Nat) (inb : ∀ a, off a + S1x1x1.size a ≤ S3x96x4.size a) (o : Fin 96) (k : Fin 4)
    (h0 : off 0 = 0) (h1 : off 1 = o.val) (h2 : off 2 = k.val) :
    (![0, (T.at 0 (Rect.unit (s := S3x96x4) off S1x1x1.size inb) numel1_S1x1x1 : BitVec 32).toNat, 0, 0] : Fin 4 → Nat)
      = ![0, ((T 0 : IVec S3x96x4 32) (ix3 0 o k)).toNat, 0, 0] := by
  refine congrArg (fun z : BitVec 32 => ![0, z.toNat, 0, 0]) (congrArg (T 0 : IVec S3x96x4 32) (funext fun a => Fin.ext ?_))
  match a with
  | ⟨0, _⟩ => exact h0
  | ⟨1, _⟩ => exact h1
  | ⟨2, _⟩ => exact h2

/-- The block index of image window 0: the plane its channel word names. -/
theorem transform0 (T : pre0.Contents (Elt Ideal)) (i : grid0.Coords) (o : Fin 96) (hi : (Scalar.indexCast (BitVec.ofNat 32 (i 0).val)).toNat = o.val) :
    cc0_transform_0 k0_off1_inb numel1_S1x1x1 T i = ![0, ((T 0 : IVec S3x96x4 32) (ix3 0 o 0)).toNat, 0, 0] :=
  channel_word T ![0, (Scalar.indexCast (BitVec.ofNat 32 (i 0).val)).toNat, 0] (k0_off1_inb i) o 0 rfl hi rfl

/-- The block index of image window 1: the plane its channel word names. -/
theorem transform1 (T : pre0.Contents (Elt Ideal)) (i : grid0.Coords) (o : Fin 96) (hi : (Scalar.indexCast (BitVec.ofNat 32 (i 0).val)).toNat = o.val) :
    cc0_transform_1 k0_off2_inb numel1_S1x1x1 T i = ![0, ((T 0 : IVec S3x96x4 32) (ix3 0 o 1)).toNat, 0, 0] :=
  channel_word T ![0, (Scalar.indexCast (BitVec.ofNat 32 (i 0).val)).toNat, 1] (k0_off2_inb i) o 1 rfl hi rfl

/-- The block index of image window 2: the plane its channel word names. -/
theorem transform2 (T : pre0.Contents (Elt Ideal)) (i : grid0.Coords) (o : Fin 96) (hi : (Scalar.indexCast (BitVec.ofNat 32 (i 0).val)).toNat = o.val) :
    cc0_transform_2 k0_off3_inb numel1_S1x1x1 T i = ![0, ((T 0 : IVec S3x96x4 32) (ix3 0 o 2)).toNat, 0, 0] :=
  channel_word T ![0, (Scalar.indexCast (BitVec.ofNat 32 (i 0).val)).toNat, 2] (k0_off3_inb i) o 2 rfl hi rfl

/-- The block index of image window 3: the plane its channel word names. -/
theorem transform3 (T : pre0.Contents (Elt Ideal)) (i : grid0.Coords) (o : Fin 96) (hi : (Scalar.indexCast (BitVec.ofNat 32 (i 0).val)).toNat = o.val) :
    cc0_transform_3 k0_off4_inb numel1_S1x1x1 T i = ![0, ((T 0 : IVec S3x96x4 32) (ix3 0 o 3)).toNat, 0, 0] :=
  channel_word T ![0, (Scalar.indexCast (BitVec.ofNat 32 (i 0).val)).toNat, 3] (k0_off4_inb i) o 3 rfl hi rfl

/-- Where image window 0 lies at a point. -/
theorem index0 (hO : Ok (F := Ideal) m) (t : Fin (cfgM m hO).N) (o : Fin 96) (ho : o.val = t.val) :
    ((cfgM m hO).win 0).index t = ![0, ((tbl m 0 : IVec S3x96x4 32) (ix3 0 o 0)).toNat, 0, 0] :=
  transform0 (tbl m) (grid0.coords t) o ((coord t).trans ho.symm)

/-- Where image window 1 lies at a point. -/
theorem index1 (hO : Ok (F := Ideal) m) (t : Fin (cfgM m hO).N) (o : Fin 96) (ho : o.val = t.val) :
    ((cfgM m hO).win 1).index t = ![0, ((tbl m 0 : IVec S3x96x4 32) (ix3 0 o 1)).toNat, 0, 0] :=
  transform1 (tbl m) (grid0.coords t) o ((coord t).trans ho.symm)

/-- Where image window 2 lies at a point. -/
theorem index2 (hO : Ok (F := Ideal) m) (t : Fin (cfgM m hO).N) (o : Fin 96) (ho : o.val = t.val) :
    ((cfgM m hO).win 2).index t = ![0, ((tbl m 0 : IVec S3x96x4 32) (ix3 0 o 2)).toNat, 0, 0] :=
  transform2 (tbl m) (grid0.coords t) o ((coord t).trans ho.symm)

/-- Where image window 3 lies at a point. -/
theorem index3 (hO : Ok (F := Ideal) m) (t : Fin (cfgM m hO).N) (o : Fin 96) (ho : o.val = t.val) :
    ((cfgM m hO).win 3).index t = ![0, ((tbl m 0 : IVec S3x96x4 32) (ix3 0 o 3)).toNat, 0, 0] :=
  transform3 (tbl m) (grid0.coords t) o ((coord t).trans ho.symm)

set_option maxHeartbeats 1000000 in
/-- The image windows' blocks at a point: the planes of the images that the channel words name. -/
theorem blocks (hO : Ok (F := Ideal) m) (c : Dev nD) (t : Fin (cfgM m hO).N) (b : Fin 4) (r q : Fin 224) (o : Fin 96) (ho : o.val = t.val)
    (ch : Fin 4 → Fin 96) (hch : ∀ k, (ch k).val = ((tbl m 0 : IVec S3x96x4 32) (ix3 0 o k)).toNat) :
    (show Vec Ideal S4x1x224x224 .f32 from iblk m hO c 0 t) (ix4 b 0 r q) = (V m c main_arg0 : Vec Ideal S4x96x224x224 .f32) (ix4 b (ch 0) r q)
    ∧ (show Vec Ideal S4x1x224x224 .f32 from iblk m hO c 1 t) (ix4 b 0 r q) = (V m c main_arg0 : Vec Ideal S4x96x224x224 .f32) (ix4 b (ch 1) r q)
    ∧ (show Vec Ideal S4x1x224x224 .f32 from iblk m hO c 2 t) (ix4 b 0 r q) = (V m c main_arg0 : Vec Ideal S4x96x224x224 .f32) (ix4 b (ch 2) r q)
    ∧ (show Vec Ideal S4x1x224x224 .f32 from iblk m hO c 3 t) (ix4 b 0 r q) = (V m c main_arg0 : Vec Ideal S4x96x224x224 .f32) (ix4 b (ch 3) r q) := by
  have e0 := index0 m hO t o ho
  have e1 := index1 m hO t o ho
  have e2 := index2 m hO t o ho
  have e3 := index3 m hO t o ho
  rw [← hch] at e0 e1 e2 e3
  refine ⟨?_, ?_, ?_, ?_⟩
  all_goals
    refine congrArg (V m c main_arg0) (funext fun a => Fin.ext ?_)
    match a with
    | ⟨0, _⟩ => blk_simp [e0, e1, e2, e3] <;> simp
    | ⟨1, _⟩ => blk_simp [e0, e1, e2, e3] <;> simp
    | ⟨2, _⟩ => blk_simp [e0, e1, e2, e3] <;> simp
    | ⟨3, _⟩ => blk_simp [e0, e1, e2, e3] <;> simp

/-- Where the coefficients' window lies at a point. -/
theorem index4 (hO : Ok (F := Ideal) m) (t : Fin (cfgM m hO).N) : ((cfgM m hO).win 4).index t = ![t.val, 0, 0] :=
  (by decide +kernel : ∀ t : Fin grid0.N, cc0_transform_4 (grid0.coords t) = ![t.val, 0, 0]) t

/-- Where the result's window lies at a point. -/
theorem index7 (hO : Ok (F := Ideal) m) (t : Fin (cfgM m hO).N) : ((cfgM m hO).win 7).index t = ![0, t.val, 0, 0] :=
  (by decide +kernel : ∀ t : Fin grid0.N, cc0_transform_7 (grid0.coords t) = ![0, t.val, 0, 0]) t

/-- The coefficients' block at a point. -/
theorem block4 (hO : Ok (F := Ideal) m) (c : Dev nD) (t : Fin (cfgM m hO).N) (q : Fin 12) (o : Fin 96) (ho : o.val = t.val) :
    (show Vec Ideal S1x1x12 .f32 from iblk m hO c 4 t) (ix3 0 0 q) = (V m c main_v23 : Vec Ideal S96x1x12 .f32) (ix3 o 0 q) := by
  refine congrArg (V m c main_v23) (funext fun a => Fin.ext ?_)
  have e := index4 m hO t
  rw [← ho] at e
  match a with
  | ⟨0, _⟩ => blk_simp [e] <;> simp
  | ⟨1, _⟩ => blk_simp [e] <;> simp
  | ⟨2, _⟩ => blk_simp [e] <;> simp

/-- The array that picks the even rows lies whole in its window. -/
theorem block5 (hO : Ok (F := Ideal) m) (c : Dev nD) (t : Fin (cfgM m hO).N) :
    (show Vec Ideal S224x112 .f32 from iblk m hO c 5 t) = (V m c main_v37 : Vec Ideal S224x112 .f32) := by
  funext y
  refine congrArg (V m c main_v37) (funext fun a => Fin.ext ?_)
  have e : ((cfgM m hO).win 5).index t = ![0, 0] := rfl
  match a with
  | ⟨0, _⟩ => blk_simp [e] <;> simp
  | ⟨1, _⟩ => blk_simp [e] <;> simp

/-- So does the array that picks the even columns. -/
theorem block6 (hO : Ok (F := Ideal) m) (c : Dev nD) (t : Fin (cfgM m hO).N) :
    (show Vec Ideal S224x112 .f32 from iblk m hO c 6 t) = (V m c main_v47 : Vec Ideal S224x112 .f32) := by
  funext y
  refine congrArg (V m c main_v47) (funext fun a => Fin.ext ?_)
  have e : ((cfgM m hO).win 6).index t = ![0, 0] := rfl
  match a with
  | ⟨0, _⟩ => blk_simp [e] <;> simp
  | ⟨1, _⟩ => blk_simp [e] <;> simp

end Cert.KernelIdeal.Block

end
-- ==== Proof.Point.lean ====
/- What one grid point of the inner kernel leaves in its block, at an index. -/
module

public import proofs.«01_k».proof.Proof.Block

@[expose] public section

set_option maxRecDepth 16384

noncomputable section

namespace Cert.KernelIdeal.Block

open Cert.KernelIdeal Cert.KernelIdeal.Gen Cert.KernelIdeal.Body Cert.Cell
open Idealize.ShloMosaic Idealize.ShloMosaic.TcCoe Idealize.SL.Sem

variable (m : (ℓ : Loc nD τ sig) → Buf (Elt Ideal) ℓ)

/-- One coefficient that the body reads from its block. -/
theorem coeff_read (cf : Vec Ideal S1x1x12 .f32) (n : Fin 12) (off : Fin 3 → Nat) (inb : ∀ a, off a + S1x1x1.size a ≤ S1x1x12.size a)
    (h : off = ![0, 0, n.val]) :
    (View.ld cf (Rect.unit (s := S1x1x12) off ![1, 1, 1] inb) : Vec Ideal S1x1x1 .f32) (ix3 0 0 0) = cf (ix3 0 0 n) := by
  subst h
  refine congrArg cf (funext fun a => Fin.ext ?_)
  match a with
  | ⟨0, _⟩ => rfl
  | ⟨1, _⟩ => rfl
  | ⟨2, _⟩ => rfl

/-- The complement of the tree at a cell, over the body's blocks and table words. -/
theorem complement_apply (x0 x1 x2 x3 : Vec Ideal S4x1x224x224 .f32) (x4 : Vec Ideal S1x1x12 .f32) (d0 d1 d2 d3 d4 d5 d6 d7 : BitVec 32)
    (h0 : d0.toNat < 3) (h1 : d1.toNat < 3) (h2 : d2.toNat < 3) (h3 : d3.toNat < 3) (h4 : d4.toNat < 3) (h5 : d5.toNat < 3)
    (h6 : d6.toNat < 3) (h7 : d7.toNat < 3) (b : Fin 4) (h w : Fin 224) :
    k0_pay19 (k0_pay5 (iota .tc S224x224 32 [0] iota_S224x224_d0_w32) (iota .tc S224x224 32 [1] iota_S224x224_d1_w32) d4 d5 x2) (k0_pay6 (iota .tc S224x224 32 [0] iota_S224x224_d0_w32) (iota .tc S224x224 32 [1] iota_S224x224_d1_w32) d6 d7 x3)
        (k0_pay8 (View.ld x4 (Rect.unit (s := S1x1x12) ![0, 0, 4] ![1, 1, 1] inb_S1x1x12_S1x1x1_0_0_4)))
        (k0_pay9 (View.ld x4 (Rect.unit (s := S1x1x12) ![0, 0, 5] ![1, 1, 1] inb_S1x1x12_S1x1x1_0_0_5)))
        (k0_pay10 (View.ld x4 (Rect.unit (s := S1x1x12) ![0, 0, 6] ![1, 1, 1] inb_S1x1x12_S1x1x1_0_0_6)))
        (k0_pay11 (View.ld x4 (Rect.unit (s := S1x1x12) ![0, 0, 7] ![1, 1, 1] inb_S1x1x12_S1x1x1_0_0_7)))
        (k0_pay12 (View.ld x4 (Rect.unit (s := S1x1x12) ![0, 0, 8] ![1, 1, 1] inb_S1x1x12_S1x1x1_0_0_8)))
        (k0_pay13 (View.ld x4 (Rect.unit (s := S1x1x12) ![0, 0, 9] ![1, 1, 1] inb_S1x1x12_S1x1x1_0_0_9)))
        (k0_pay14 (View.ld x4 (Rect.unit (s := S1x1x12) ![0, 0, 10] ![1, 1, 1] inb_S1x1x12_S1x1x1_0_0_10)))
        (k0_pay15 (View.ld x4 (Rect.unit (s := S1x1x12) ![0, 0, 11] ![1, 1, 1] inb_S1x1x12_S1x1x1_0_0_11)))
        (k0_pay16 (k0_pay3 d0 d1 x0) (k0_pay4 (iota .tc S224x224 32 [0] iota_S224x224_d0_w32) (iota .tc S224x224 32 [1] iota_S224x224_d1_w32) d2 d3 x1) (k0_pay7 (View.ld x4 (Rect.unit (s := S1x1x12) ![0, 0, 0] ![1, 1, 1] inb_S1x1x12_S1x1x1_0_0_0))) (View.ld x4 (Rect.unit (s := S1x1x12) ![0, 0, 1] ![1, 1, 1] inb_S1x1x12_S1x1x1_0_0_1)) (View.ld x4 (Rect.unit (s := S1x1x12) ![0, 0, 2] ![1, 1, 1] inb_S1x1x12_S1x1x1_0_0_2)))
        (k0_pay17 (k0_pay3 d0 d1 x0) (k0_pay4 (iota .tc S224x224 32 [0] iota_S224x224_d0_w32) (iota .tc S224x224 32 [1] iota_S224x224_d1_w32) d2 d3 x1)) (k0_pay18 (View.ld x4 (Rect.unit (s := S1x1x12) ![0, 0, 3] ![1, 1, 1] inb_S1x1x12_S1x1x1_0_0_3))) (ix3 b h w)
      = 1 - tree (fun g k => x4 (ix3 0 0 ⟨4 * g.val + k.val, by omega⟩))
          ![border (fun r q => x0 (ix4 b 0 r q)) (h.val + d0.toNat) (w.val + d1.toNat),
            border (fun r q => x1 (ix4 b 0 r q)) (h.val + d2.toNat) (w.val + d3.toNat),
            border (fun r q => x2 (ix4 b 0 r q)) (h.val + d4.toNat) (w.val + d5.toNat),
            border (fun r q => x3 (ix4 b 0 r q)) (h.val + d6.toNat) (w.val + d7.toNat)] := by
  have e4 : ∀ v, k0_pay8 (F := Ideal) v = v (ix3 0 0 0) := fun v => by pointwise [k0_pay8]
  have e5 : ∀ v, k0_pay9 (F := Ideal) v = v (ix3 0 0 0) := fun v => by pointwise [k0_pay9]
  have e6 : ∀ v, k0_pay10 (F := Ideal) v = v (ix3 0 0 0) := fun v => by pointwise [k0_pay10]
  have e7 : ∀ v, k0_pay11 (F := Ideal) v = v (ix3 0 0 0) := fun v => by pointwise [k0_pay11]
  have e8 : ∀ v, k0_pay12 (F := Ideal) v = v (ix3 0 0 0) := fun v => by pointwise [k0_pay12]
  have e9 : ∀ v, k0_pay13 (F := Ideal) v = v (ix3 0 0 0) := fun v => by pointwise [k0_pay13]
  have e10 : ∀ v, k0_pay14 (F := Ideal) v = v (ix3 0 0 0) := fun v => by pointwise [k0_pay14]
  have e11 : ∀ v, k0_pay15 (F := Ideal) v = v (ix3 0 0 0) := fun v => by pointwise [k0_pay15]
  exact tree_apply _ _ _ _ _ _ _ _ _ _ _ _ _ _ _ _ b h w _ _
    (coeff_read x4 0 ![0, 0, 0] inb_S1x1x12_S1x1x1_0_0_0 rfl).symm
    (coeff_read x4 1 ![0, 0, 1] inb_S1x1x12_S1x1x1_0_0_1 rfl).symm
    (coeff_read x4 2 ![0, 0, 2] inb_S1x1x12_S1x1x1_0_0_2 rfl).symm
    (coeff_read x4 3 ![0, 0, 3] inb_S1x1x12_S1x1x1_0_0_3 rfl).symm
    ((congrArg x4 (congrArg (ix3 0 0) (Fin.ext rfl))).trans ((coeff_read x4 4 ![0, 0, 4] inb_S1x1x12_S1x1x1_0_0_4 rfl).symm.trans (e4 _).symm))
    ((congrArg x4 (congrArg (ix3 0 0) (Fin.ext rfl))).trans ((coeff_read x4 5 ![0, 0, 5] inb_S1x1x12_S1x1x1_0_0_5 rfl).symm.trans (e5 _).symm))
    ((congrArg x4 (congrArg (ix3 0 0) (Fin.ext rfl))).trans ((coeff_read x4 6 ![0, 0, 6] inb_S1x1x12_S1x1x1_0_0_6 rfl).symm.trans (e6 _).symm))
    ((congrArg x4 (congrArg (ix3 0 0) (Fin.ext rfl))).trans ((coeff_read x4 7 ![0, 0, 7] inb_S1x1x12_S1x1x1_0_0_7 rfl).symm.trans (e7 _).symm))
    ((congrArg x4 (congrArg (ix3 0 0) (Fin.ext rfl))).trans ((coeff_read x4 8 ![0, 0, 8] inb_S1x1x12_S1x1x1_0_0_8 rfl).symm.trans (e8 _).symm))
    ((congrArg x4 (congrArg (ix3 0 0) (Fin.ext rfl))).trans ((coeff_read x4 9 ![0, 0, 9] inb_S1x1x12_S1x1x1_0_0_9 rfl).symm.trans (e9 _).symm))
    ((congrArg x4 (congrArg (ix3 0 0) (Fin.ext rfl))).trans ((coeff_read x4 10 ![0, 0, 10] inb_S1x1x12_S1x1x1_0_0_10 rfl).symm.trans (e10 _).symm))
    ((congrArg x4 (congrArg (ix3 0 0) (Fin.ext rfl))).trans ((coeff_read x4 11 ![0, 0, 11] inb_S1x1x12_S1x1x1_0_0_11 rfl).symm.trans (e11 _).symm))
    (leaf0 _ _ _ b h w h0 h1).symm (leaf1 _ _ _ b h w h2 h3).symm (leaf2 _ _ _ b h w h4 h5).symm (leaf3 _ _ _ b h w h6 h7).symm

/-- What the body leaves in the result's block, as a function of the blocks and the table it is handed. -/
theorem out_apply (c : Dev nD) (i : grid0.Coords) (arg2 : Memref sig .tc .vmem S4x1x224x224 .f32) (harg2 : arg2.IsWhole) (arg3 : Memref sig .tc .vmem S4x1x224x224 .f32) (harg3 : arg3.IsWhole) (arg4 : Memref sig .tc .vmem S4x1x224x224 .f32) (harg4 : arg4.IsWhole) (arg5 : Memref sig .tc .vmem S4x1x224x224 .f32) (harg5 : arg5.IsWhole) (arg6 : Memref sig .tc .vmem S1x1x12 .f32) (harg6 : arg6.IsWhole) (arg7 : Memref sig .tc .vmem S224x112 .f32) (harg7 : arg7.IsWhole) (arg8 : Memref sig .tc .vmem S224x112 .f32) (harg8 : arg8.IsWhole) (arg9 : Memref sig .tc .vmem S4x1x112x112 .f32) (harg9 : arg9.IsWhole)
        (x0 : Vec Ideal S4x1x224x224 .f32) (x1 : Vec Ideal S4x1x224x224 .f32) (x2 : Vec Ideal S4x1x224x224 .f32) (x3 : Vec Ideal S4x1x224x224 .f32) (x4 : Vec Ideal S1x1x12 .f32) (x5 : Vec Ideal S224x112 .f32) (x6 : Vec Ideal S224x112 .f32) (xt0 : TbBuf0 (F := Ideal) c tbM0_0)
    (T : IVec S3x96x4 32) (hT : xt0 = T) (o : Fin 96) (hi : (Scalar.indexCast (BitVec.ofNat 32 (i 0).val)).toNat = o.val)
    (hlt : ∀ (r : Fin 3) (k : Fin 4), r.val ≠ 0 → (T (ix3 r o k)).toNat < 3) (hr : Picks x5) (hc : Picks x6) (y : S4x1x112x112.Idx)
    (b : Fin 4) (p q : Fin 112) (hb : b.val = (y 0).val) (hp : p.val = (y 2).val) (hq : q.val = (y 3).val) :
    out0_A_7 (F := Ideal) c i arg2 harg2 arg3 harg3 arg4 harg4 arg5 harg5 arg6 harg6 arg7 harg7 arg8 harg8 arg9 harg9 x0 x1 x2 x3 x4 x5 x6 xt0 y
      = square (fun h w => 1 - tree (fun g k => x4 (ix3 0 0 ⟨4 * g.val + k.val, by omega⟩))
          ![border (fun r q => x0 (ix4 b 0 r q)) (h.val + (T (ix3 1 o 0)).toNat) (w.val + (T (ix3 2 o 0)).toNat),
            border (fun r q => x1 (ix4 b 0 r q)) (h.val + (T (ix3 1 o 1)).toNat) (w.val + (T (ix3 2 o 1)).toNat),
            border (fun r q => x2 (ix4 b 0 r q)) (h.val + (T (ix3 1 o 2)).toNat) (w.val + (T (ix3 2 o 2)).toNat),
            border (fun r q => x3 (ix4 b 0 r q)) (h.val + (T (ix3 1 o 3)).toNat) (w.val + (T (ix3 2 o 3)).toNat)]) p q := by
  subst hT
  frame_out
  rw [word_read (k0_off5 i) _ _ xt0 1 o 0 rfl hi rfl,
    word_read (k0_off6 i) _ _ xt0 2 o 0 rfl hi rfl,
    word_read (k0_off7 i) _ _ xt0 1 o 1 rfl hi rfl,
    word_read (k0_off8 i) _ _ xt0 2 o 1 rfl hi rfl,
    word_read (k0_off9 i) _ _ xt0 1 o 2 rfl hi rfl,
    word_read (k0_off10 i) _ _ xt0 2 o 2 rfl hi rfl,
    word_read (k0_off11 i) _ _ xt0 1 o 3 rfl hi rfl,
    word_read (k0_off12 i) _ _ xt0 2 o 3 rfl hi rfl]
  canon_tiles x h
  all_goals
    obtain rfl : x = ix4 0 0 p q := by
      funext a
      refine Fin.ext ?_
      match a with
      | ⟨0, _⟩ => exact Nat.lt_one_iff.1 x0_lt
      | ⟨1, _⟩ => exact Nat.lt_one_iff.1 x1_lt
      | ⟨2, _⟩ => exact (hp.trans h2).symm
      | ⟨3, _⟩ => exact (hq.trans h3).symm
  case piece0 =>
    obtain rfl : b = 3 := Fin.ext (hb.trans h0)
    rw [pool3 _ _ _ hr hc]
    simp only [complement_apply x0 x1 x2 x3 x4 _ _ _ _ _ _ _ _ (hlt 1 0 (by decide)) (hlt 2 0 (by decide)) (hlt 1 1 (by decide)) (hlt 2 1 (by decide))
      (hlt 1 2 (by decide)) (hlt 2 2 (by decide)) (hlt 1 3 (by decide)) (hlt 2 3 (by decide))]
  case piece1 =>
    obtain rfl : b = 2 := Fin.ext (hb.trans h0)
    rw [pool2 _ _ _ hr hc]
    simp only [complement_apply x0 x1 x2 x3 x4 _ _ _ _ _ _ _ _ (hlt 1 0 (by decide)) (hlt 2 0 (by decide)) (hlt 1 1 (by decide)) (hlt 2 1 (by decide))
      (hlt 1 2 (by decide)) (hlt 2 2 (by decide)) (hlt 1 3 (by decide)) (hlt 2 3 (by decide))]
  case piece2 =>
    obtain rfl : b = 1 := Fin.ext (hb.trans h0)
    rw [pool1 _ _ _ hr hc]
    simp only [complement_apply x0 x1 x2 x3 x4 _ _ _ _ _ _ _ _ (hlt 1 0 (by decide)) (hlt 2 0 (by decide)) (hlt 1 1 (by decide)) (hlt 2 1 (by decide))
      (hlt 1 2 (by decide)) (hlt 2 2 (by decide)) (hlt 1 3 (by decide)) (hlt 2 3 (by decide))]
  case piece3 =>
    obtain rfl : b = 0 := Fin.ext (hb.trans h0)
    rw [pool0 _ _ _ _ _ _ _ _ _ _ _ _ _ _ _ hr hc]
    simp only [complement_apply x0 x1 x2 x3 x4 _ _ _ _ _ _ _ _ (hlt 1 0 (by decide)) (hlt 2 0 (by decide)) (hlt 1 1 (by decide)) (hlt 2 1 (by decide))
      (hlt 1 2 (by decide)) (hlt 2 2 (by decide)) (hlt 1 3 (by decide)) (hlt 2 3 (by decide))]

end Cert.KernelIdeal.Block

end
-- ==== Proof.RefPoint.lean ====
/- The stages of the reference at an index, over the extended reals. -/
module

public import proofs.«01_k».proof.Proof.RefStages
public import Idealize.ShloMosaic.Lib.Pointwise
public import Idealize.ShloMosaic.Lib.WordCmp

@[expose] public section

set_option maxRecDepth 16384

noncomputable section

namespace Cert.ReferenceIdeal.Stage

open Cert.ReferenceIdeal Cert.ReferenceIdeal.Gen
open Idealize.ShloMosaic Idealize.ShloMosaic.TcCoe

/-- The first level at a cell: gate `k` of the leaves `2k` and `2k + 1`. -/
theorem gates1_apply (cf : FVec Ideal S96x3x4 .f32) (lv : FVec Ideal S4x96x4x224x224 .f32) (b : Fin 4) (o : Fin 96) (k : Fin 2) (h w : Fin 224) :
    gates1 cf lv (ix5 b o k h w)
      = cf (ix3 o ⟨k.val, by omega⟩ 0) + cf (ix3 o ⟨k.val, by omega⟩ 1) * lv (ix5 b o ⟨2 * k.val, by omega⟩ h w)
        + cf (ix3 o ⟨k.val, by omega⟩ 2) * lv (ix5 b o ⟨1 + 2 * k.val, by omega⟩ h w)
        + cf (ix3 o ⟨k.val, by omega⟩ 3) * (lv (ix5 b o ⟨2 * k.val, by omega⟩ h w) * lv (ix5 b o ⟨1 + 2 * k.val, by omega⟩ h w)) := by
  pointwise [gates1]

/-- The second level at a cell: the third gate of the first level's two. -/
theorem gate2_apply (cf : FVec Ideal S96x3x4 .f32) (lv : FVec Ideal S4x96x2x224x224 .f32) (b : Fin 4) (o : Fin 96) (h w : Fin 224) :
    gate2 cf lv (ix5 b o 0 h w)
      = cf (ix3 o 2 0) + cf (ix3 o 2 1) * lv (ix5 b o 0 h w) + cf (ix3 o 2 2) * lv (ix5 b o 1 h w)
        + cf (ix3 o 2 3) * (lv (ix5 b o 0 h w) * lv (ix5 b o 1 h w)) := by
  pointwise [gate2]

/-- The pooling at a cell. -/
theorem pooled_apply (t : FVec Ideal S4x96x1x224x224 .f32) (b : Fin 4) (o : Fin 96) (i j : Fin 112) :
    pooled t (ix4 b o i j)
      = 1 - (1 - t (ix5 b o 0 ⟨i.val * 2, by omega⟩ ⟨j.val * 2, by omega⟩)) * (1 - t (ix5 b o 0 ⟨i.val * 2, by omega⟩ ⟨j.val * 2 + 1, by omega⟩))
          * (1 - t (ix5 b o 0 ⟨i.val * 2 + 1, by omega⟩ ⟨j.val * 2, by omega⟩))
          * (1 - t (ix5 b o 0 ⟨i.val * 2 + 1, by omega⟩ ⟨j.val * 2 + 1, by omega⟩)) := by
  pointwise [pooled]

/-- A coefficient: the sum over the 16 gates. -/
theorem coeffs_apply (w : FVec Ideal S96x3x16 .f32) (t : FVec Ideal S16x4 .f32) (o : Fin 96) (g : Fin 3) (c : Fin 4) :
    coeffs w t (ix3 o g c) = ∑ x : Fin 16, w (ix3 o g x) * t (ix2 x c) := by
  pointwise [coeffs]

/-- A cell of the images with their border. -/
theorem padded_apply (x : FVec Ideal S4x96x224x224 .f32) (b : Fin 4) (o : Fin 96) (i j : Fin 226) :
    padded x (ix4 b o i j)
      = if h : (1 ≤ i.val ∧ i.val - 1 < 224) ∧ 1 ≤ j.val ∧ j.val - 1 < 224 then x (ix4 b o ⟨i.val - 1, h.1.2⟩ ⟨j.val - 1, h.2.2⟩) else 0 := by
  have h0 : (FloatOps.sitofp FTy.f32 (0#32) : Ideal .f32) = 0 := by
    show ((((0#32 : BitVec 32).toInt : ℝ) : EReal)) = 0
    simp
  pointwise [padded]
  rw [h0]

/-- The three planes of the index array. -/
theorem indices_apply (x y z : IVec S96x4x224x224x1 32) (o : Fin 96) (k : Fin 4) (i j : Fin 224) :
    indices x y z (ix5 o k i j 0) = x (ix5 o k i j 0) ∧ indices x y z (ix5 o k i j 1) = y (ix5 o k i j 0)
      ∧ indices x y z (ix5 o k i j 2) = z (ix5 o k i j 0) := by
  refine ⟨?_, ?_, ?_⟩ <;> pointwise [indices]

/-- There is one group of 96 output kernels, so every group number is zero. -/
theorem group_apply (o : Fin 96) : group (ix1 o) = 0#32 := by
  pointwise [group]
  revert o
  decide +kernel

/-- A channel in range is its own index. -/
theorem channel_apply (x : IVec S96x4 32) (o : Fin 96) (k : Fin 4) (i j : Fin 224) (hx : (x (ix2 o k)).toNat < 96) :
    channelIndex (channels x group) (ix5 o k i j 0) = BitVec.ofNat 32 (x (ix2 o k)).toNat := by
  have hg := group_apply o
  pointwise [channelIndex, channels]
  rw [hg]
  generalize x (ix2 o k) = v at hx ⊢
  obtain ⟨n, hn, rfl⟩ : ∃ n, n < 96 ∧ v = BitVec.ofNat 32 n := ⟨v.toNat, hx, by simp⟩
  clear hx
  revert n
  decide +kernel

/-- A row of the padded images. -/
theorem row_apply (x : IVec S96x4 32) (o : Fin 96) (k : Fin 4) (i j : Fin 224) (hx : (x (ix2 o k)).toNat < 3) :
    rowIndex (rows x) (ix5 o k i j 0) = BitVec.ofNat 32 (i.val + (x (ix2 o k)).toNat) := by
  pointwise [rowIndex, rows]
  generalize x (ix2 o k) = v at hx ⊢
  obtain ⟨n, hn, rfl⟩ : ∃ n, n < 3 ∧ v = BitVec.ofNat 32 n := ⟨v.toNat, hx, by simp⟩
  clear hx
  revert n i
  decide +kernel

/-- A column of the padded images. -/
theorem column_apply (x : IVec S96x4 32) (o : Fin 96) (k : Fin 4) (i j : Fin 224) (hx : (x (ix2 o k)).toNat < 3) :
    columnIndex (columns x) (ix5 o k i j 0) = BitVec.ofNat 32 (j.val + (x (ix2 o k)).toNat) := by
  pointwise [columnIndex, columns]
  generalize x (ix2 o k) = v at hx ⊢
  obtain ⟨n, hn, rfl⟩ : ∃ n, n < 3 ∧ v = BitVec.ofNat 32 n := ⟨v.toNat, hx, by simp⟩
  clear hx
  revert n j
  decide +kernel

/-- A word holding a small natural number, read signed, is that number. -/
theorem toInt_small (n : Nat) (h : n < 2147483648) : (BitVec.ofNat 32 n).toInt = n := by
  rw [BitVec.toInt_eq_toNat_cond, BitVec.toNat_ofNat]
  have hm : n % 2 ^ 32 = n := Nat.mod_eq_of_lt (by omega)
  rw [hm, if_pos (by omega)]

/-- A gathered leaf at a cell, where the index array holds a channel, a row and a column in range. -/
theorem leaves_apply (p : FVec Ideal S4x96x226x226 .f32) (x : IVec S96x4x224x224x3 32) (b : Fin 4) (o : Fin 96) (k : Fin 4) (i j : Fin 224)
    (c : Fin 96) (r q : Fin 226) (h0 : x (ix5 o k i j 0) = BitVec.ofNat 32 c.val) (h1 : x (ix5 o k i j 1) = BitVec.ofNat 32 r.val)
    (h2 : x (ix5 o k i j 2) = BitVec.ofNat 32 q.val) :
    leaves p x (ix5 b o k i j) = p (ix4 b c r q) := by
  unfold leaves
  generalize hd : gather_S4x96x226x226_S96x4x224x224x3_S4x96x4x224x224_0_123_n_n_123_4_4111 = d
  show Host.gather d p x (ix5 b o k i j) = _
  unfold Host.gather
  refine congrArg p (funext fun a => Fin.ext ?_)
  show d.start (ix5 b o k i j) x a + d.batchCoord (ix5 b o k i j) a + d.offCoord (ix5 b o k i j) a = _
  rw [d.batchCoord_eq_zero _ _ (by rw [← hd]; exact List.not_mem_nil)]
  simp only [Nat.add_zero]
  have hb := c.isLt
  have hr := r.isLt
  have hq := q.isLt
  match a with
  | ⟨0, _⟩ =>
    have hm : (0 : Fin 4) ∉ d.startIndexMap := by subst hd; decide
    have hs : d.start (ix5 b o k i j) x (0 : Fin 4) = 0 := by
      unfold GatherDims.start
      rw [dif_neg hm]
    show d.start (ix5 b o k i j) x (0 : Fin 4) + d.offCoord (ix5 b o k i j) (0 : Fin 4) = b.val
    rw [hs, Nat.zero_add]
    subst hd
    rfl
  | ⟨1, _⟩ =>
    have hk : (1 : Fin 4) ∉ d.sKept := by subst hd; decide
    have hm : (1 : Fin 4) ∈ d.startIndexMap := by subst hd; decide
    have hs : d.start (ix5 b o k i j) x (1 : Fin 4) = min (x (ix5 o k i j 0)).toInt.toNat 95 := by
      unfold GatherDims.start
      rw [dif_pos hm]
      subst hd
      have hsi : gather_S4x96x226x226_S96x4x224x224x3_S4x96x4x224x224_0_123_n_n_123_4_4111.siIdx (ix5 b o k i j) ⟨_, List.idxOf_lt_length_iff.2 hm⟩ = ix5 o k i j 0 := by
        funext b'; refine Fin.ext ?_
        match b' with
        | ⟨0, _⟩ => rfl
        | ⟨1, _⟩ => rfl
        | ⟨2, _⟩ => rfl
        | ⟨3, _⟩ => rfl
        | ⟨4, _⟩ => rfl
      rw [hsi]
      rfl
    show d.start (ix5 b o k i j) x (1 : Fin 4) + d.offCoord (ix5 b o k i j) (1 : Fin 4) = c.val
    rw [d.offCoord_eq_zero _ _ hk, hs, h0, toInt_small _ (by omega)]
    omega
  | ⟨2, _⟩ =>
    have hk : (2 : Fin 4) ∉ d.sKept := by subst hd; decide
    have hm : (2 : Fin 4) ∈ d.startIndexMap := by subst hd; decide
    have hs : d.start (ix5 b o k i j) x (2 : Fin 4) = min (x (ix5 o k i j 1)).toInt.toNat 225 := by
      unfold GatherDims.start
      rw [dif_pos hm]
      subst hd
      have hsi : gather_S4x96x226x226_S96x4x224x224x3_S4x96x4x224x224_0_123_n_n_123_4_4111.siIdx (ix5 b o k i j) ⟨_, List.idxOf_lt_length_iff.2 hm⟩ = ix5 o k i j 1 := by
        funext b'; refine Fin.ext ?_
        match b' with
        | ⟨0, _⟩ => rfl
        | ⟨1, _⟩ => rfl
        | ⟨2, _⟩ => rfl
        | ⟨3, _⟩ => rfl
        | ⟨4, _⟩ => rfl
      rw [hsi]
      rfl
    show d.start (ix5 b o k i j) x (2 : Fin 4) + d.offCoord (ix5 b o k i j) (2 : Fin 4) = r.val
    rw [d.offCoord_eq_zero _ _ hk, hs, h1, toInt_small _ (by omega)]
    omega
  | ⟨3, _⟩ =>
    have hk : (3 : Fin 4) ∉ d.sKept := by subst hd; decide
    have hm : (3 : Fin 4) ∈ d.startIndexMap := by subst hd; decide
    have hs : d.start (ix5 b o k i j) x (3 : Fin 4) = min (x (ix5 o k i j 2)).toInt.toNat 225 := by
      unfold GatherDims.start
      rw [dif_pos hm]
      subst hd
      have hsi : gather_S4x96x226x226_S96x4x224x224x3_S4x96x4x224x224_0_123_n_n_123_4_4111.siIdx (ix5 b o k i j) ⟨_, List.idxOf_lt_length_iff.2 hm⟩ = ix5 o k i j 2 := by
        funext b'; refine Fin.ext ?_
        match b' with
        | ⟨0, _⟩ => rfl
        | ⟨1, _⟩ => rfl
        | ⟨2, _⟩ => rfl
        | ⟨3, _⟩ => rfl
        | ⟨4, _⟩ => rfl
      rw [hsi]
      rfl
    show d.start (ix5 b o k i j) x (3 : Fin 4) + d.offCoord (ix5 b o k i j) (3 : Fin 4) = q.val
    rw [d.offCoord_eq_zero _ _ hk, hs, h2, toInt_small _ (by omega)]
    omega

end Cert.ReferenceIdeal.Stage

end
-- ==== Proof.RefRun.lean ====
/- The reference program as five stretches of host operations, and what its run leaves in the result. -/
module

public import proofs.«01_k».proof.Defs
public import proofs.«01_k».proof.Proof.Gen.ReferenceIdeal
public import proofs.«01_k».proof.Proof.RefStages
public import Idealize.ShloMosaic.Lib.Claim
public import Idealize.ShloMosaic.Lib.StableHlo.RunRead
public import Idealize.ShloMosaic.Lib.Pipeline.Frame

@[expose] public section

set_option maxRecDepth 16384

noncomputable section

namespace Cert.ReferenceIdeal.Run

open Cert.ReferenceIdeal Cert.ReferenceIdeal.Gen
open Idealize.ShloMosaic Idealize.ShloMosaic.TcCoe Idealize.SL.Sem

variable {F : FTy → Type} [FloatOps F]

/-- The operations through the gate coefficients. -/
abbrev opsWeights : List (HloOp τ sig (Elt F)) :=
  [ StableHlo.nullary main_cst (fun i => FloatOps.ofBits .f32 (lit0 (S16x4.rowMajor i))),
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_arg0 : StableHlo.TRef sig ⟨S4x96x224x224, .f32⟩) (.of main_call0_v0 : StableHlo.TRef sig ⟨S_, .f32⟩) (.of main_v0 : StableHlo.TRef sig ⟨S4x96x226x226, .f32⟩) (fun x v => pad S4x96x226x226 ![0, 0, 1, 1] ![0, 0, 1, 1] ![0, 0, 0, 0] x v pads_S4x96x224x224_S4x96x226x226_000_000_110_110 h_S_),
    StableHlo.nullary main_cst_0 (constant S_ .f32 0x3F800000#32),
    StableHlo.unary main_cst_0 main_v1 (broadcastInDim S96x3x16 ![] bcast_S_S96x3x16 : (⟨S_, .f32⟩ : BufTy).Contents (Elt F) → (⟨S96x3x16, .f32⟩ : BufTy).Contents (Elt F)),
    StableHlo.binary main_arg1 main_v1 main_v2 (Host.divf : (⟨S96x3x16, .f32⟩ : BufTy).Contents (Elt F) → (⟨S96x3x16, .f32⟩ : BufTy).Contents (Elt F) → (⟨S96x3x16, .f32⟩ : BufTy).Contents (Elt F)),
    StableHlo.nullary main_cst_1 (constant S_ .f32 0xFF800000#32),
    StableHlo.binary main_v2 main_cst_1 main_v3 ((fun x v => Host.reduce FloatOps.maximumf x v reducesTo_S96x3x16_S96x3_d2 h_S_) : (⟨S96x3x16, .f32⟩ : BufTy).Contents (Elt F) → (⟨S_, .f32⟩ : BufTy).Contents (Elt F) → (⟨S96x3, .f32⟩ : BufTy).Contents (Elt F)),
    StableHlo.nullary main_cst_2 (constant S_ .f32 0xFF800000#32),
    StableHlo.unary main_cst_2 main_v4 (broadcastInDim S96x3 ![] bcast_S_S96x3 : (⟨S_, .f32⟩ : BufTy).Contents (Elt F) → (⟨S96x3, .f32⟩ : BufTy).Contents (Elt F)),
    StableHlo.binary main_v4 main_v3 main_v5 (maximumf : (⟨S96x3, .f32⟩ : BufTy).Contents (Elt F) → (⟨S96x3, .f32⟩ : BufTy).Contents (Elt F) → (⟨S96x3, .f32⟩ : BufTy).Contents (Elt F)),
    StableHlo.unary main_v5 main_v6 (broadcastInDim S96x3x1 ![0, 1] bcast_S96x3_S96x3x1_0_1 : (⟨S96x3, .f32⟩ : BufTy).Contents (Elt F) → (⟨S96x3x1, .f32⟩ : BufTy).Contents (Elt F)),
    StableHlo.unary main_v6 main_v7 (broadcastInDim S96x3x16 ![0, 1, 2] bcast_S96x3x1_S96x3x16_0_1_2 : (⟨S96x3x1, .f32⟩ : BufTy).Contents (Elt F) → (⟨S96x3x16, .f32⟩ : BufTy).Contents (Elt F)),
    StableHlo.binary main_v2 main_v7 main_v8 (subf : (⟨S96x3x16, .f32⟩ : BufTy).Contents (Elt F) → (⟨S96x3x16, .f32⟩ : BufTy).Contents (Elt F) → (⟨S96x3x16, .f32⟩ : BufTy).Contents (Elt F)),
    StableHlo.unary main_v8 main_v9 (Host.exp : (⟨S96x3x16, .f32⟩ : BufTy).Contents (Elt F) → (⟨S96x3x16, .f32⟩ : BufTy).Contents (Elt F)),
    StableHlo.nullary main_cst_3 (constant S_ .f32 0x00000000#32),
    StableHlo.binary main_v9 main_cst_3 main_v10 ((fun x v => Host.reduceAdd x v reducesTo_S96x3x16_S96x3_d2 h_S_) : (⟨S96x3x16, .f32⟩ : BufTy).Contents (Elt F) → (⟨S_, .f32⟩ : BufTy).Contents (Elt F) → (⟨S96x3, .f32⟩ : BufTy).Contents (Elt F)),
    StableHlo.unary main_v10 main_v11 (broadcastInDim S96x3x1 ![0, 1] bcast_S96x3_S96x3x1_0_1 : (⟨S96x3, .f32⟩ : BufTy).Contents (Elt F) → (⟨S96x3x1, .f32⟩ : BufTy).Contents (Elt F)),
    StableHlo.unary main_v11 main_v12 (broadcastInDim S96x3x16 ![0, 1, 2] bcast_S96x3x1_S96x3x16_0_1_2 : (⟨S96x3x1, .f32⟩ : BufTy).Contents (Elt F) → (⟨S96x3x16, .f32⟩ : BufTy).Contents (Elt F)),
    StableHlo.binary main_v9 main_v12 main_v13 (Host.divf : (⟨S96x3x16, .f32⟩ : BufTy).Contents (Elt F) → (⟨S96x3x16, .f32⟩ : BufTy).Contents (Elt F) → (⟨S96x3x16, .f32⟩ : BufTy).Contents (Elt F)),
    StableHlo.TRef.nullary (.of main_call1_v0 : StableHlo.TRef sig ⟨S96x3x16, .i32⟩) (iotaInDim S96x3x16 32 2),
    StableHlo.TRef.nullary (.of main_call1_cst : StableHlo.TRef sig ⟨S_, .f32⟩) (constant S_ .f32 0xFF800000#32),
    StableHlo.TRef.nullary (.of main_call1_c : StableHlo.TRef sig ⟨S_, .i32⟩) (constantI S_ 32 0#32),
    StableHlo.TRef.quaternary (.of main_arg1 : StableHlo.TRef sig ⟨S96x3x16, .f32⟩) (.of main_call1_v0 : StableHlo.TRef sig ⟨S96x3x16, .i32⟩) (.of main_call1_cst : StableHlo.TRef sig ⟨S_, .f32⟩) (.of main_call1_c : StableHlo.TRef sig ⟨S_, .i32⟩) (.of main_call1_v1_0 : StableHlo.TRef sig ⟨S96x3, .f32⟩) (fun x y u v j => (Host.argReduce reducer_argmax_f32_i32 x y u v reducesTo_S96x3x16_S96x3_d2 h_S_ j).1),
    StableHlo.TRef.quaternary (.of main_arg1 : StableHlo.TRef sig ⟨S96x3x16, .f32⟩) (.of main_call1_v0 : StableHlo.TRef sig ⟨S96x3x16, .i32⟩) (.of main_call1_cst : StableHlo.TRef sig ⟨S_, .f32⟩) (.of main_call1_c : StableHlo.TRef sig ⟨S_, .i32⟩) (.of main_v14 : StableHlo.TRef sig ⟨S96x3, .i32⟩) (fun x y u v j => (Host.argReduce reducer_argmax_f32_i32 x y u v reducesTo_S96x3x16_S96x3_d2 h_S_ j).2),
    StableHlo.TRef.unary (.of main_v14 : StableHlo.TRef sig ⟨S96x3, .i32⟩) (.of main_call2_v0 : StableHlo.TRef sig ⟨S96x3x1, .i32⟩) (broadcastInDim S96x3x1 ![0, 1] bcast_S96x3_S96x3x1_0_1),
    StableHlo.TRef.nullary (.of main_call2_v1 : StableHlo.TRef sig ⟨S1x1x16, .i32⟩) (iotaInDim S1x1x16 32 2),
    StableHlo.TRef.unary (.of main_call2_v0 : StableHlo.TRef sig ⟨S96x3x1, .i32⟩) (.of main_call2_v2 : StableHlo.TRef sig ⟨S96x3x16, .i32⟩) (broadcastInDim S96x3x16 ![0, 1, 2] bcast_S96x3x1_S96x3x16_0_1_2),
    StableHlo.TRef.unary (.of main_call2_v1 : StableHlo.TRef sig ⟨S1x1x16, .i32⟩) (.of main_call2_v3 : StableHlo.TRef sig ⟨S96x3x16, .i32⟩) (broadcastInDim S96x3x16 ![0, 1, 2] bcast_S1x1x16_S96x3x16_0_1_2),
    StableHlo.TRef.binary (.of main_call2_v2 : StableHlo.TRef sig ⟨S96x3x16, .i32⟩) (.of main_call2_v3 : StableHlo.TRef sig ⟨S96x3x16, .i32⟩) (.of main_call2_v4 : StableHlo.TRef sig ⟨S96x3x16, .i1⟩) (cmpi .eq),
    StableHlo.TRef.unary (.of main_call2_v4 : StableHlo.TRef sig ⟨S96x3x16, .i1⟩) (.of main_v15 : StableHlo.TRef sig ⟨S96x3x16, .f32⟩) (uitofp .f32),
    StableHlo.binary main_v15 main_v13 main_v16 (addf : (⟨S96x3x16, .f32⟩ : BufTy).Contents (Elt F) → (⟨S96x3x16, .f32⟩ : BufTy).Contents (Elt F) → (⟨S96x3x16, .f32⟩ : BufTy).Contents (Elt F)),
    StableHlo.binary main_v16 main_v13 main_v17 (subf : (⟨S96x3x16, .f32⟩ : BufTy).Contents (Elt F) → (⟨S96x3x16, .f32⟩ : BufTy).Contents (Elt F) → (⟨S96x3x16, .f32⟩ : BufTy).Contents (Elt F)),
    StableHlo.binary main_v17 main_cst main_v18 ((fun l r => Host.dotGeneral dot_S96x3x16_S16x4_S96x3x4_2_0_01_1_n_n none l r) : (⟨S96x3x16, .f32⟩ : BufTy).Contents (Elt F) → (⟨S16x4, .f32⟩ : BufTy).Contents (Elt F) → (⟨S96x3x4, .f32⟩ : BufTy).Contents (Elt F)) ]

/-- The operations through the gather of the leaves. -/
abbrev opsLeaves : List (HloOp τ sig (Elt F)) :=
  [ StableHlo.nullary main_v19 (iotaInDim S96 32 0),
    StableHlo.nullary main_c_4 (constantI S_ 32 96#32),
    StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S96, .i32⟩) (broadcastInDim S96 ![] bcast_S_S96),
    StableHlo.TRef.binary (.of main_v19 : StableHlo.TRef sig ⟨S96, .i32⟩) (.of main_call3_v1 : StableHlo.TRef sig ⟨S96, .i32⟩) (.of main_call3_v2 : StableHlo.TRef sig ⟨S96, .i32⟩) Host.divsi,
    StableHlo.TRef.unary (.of main_v19 : StableHlo.TRef sig ⟨S96, .i32⟩) (.of main_call3_v3 : StableHlo.TRef sig ⟨S96, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S96, .i32⟩) (broadcastInDim S96 ![] bcast_S_S96),
    StableHlo.TRef.binary (.of main_call3_v3 : StableHlo.TRef sig ⟨S96, .i32⟩) (.of main_call3_v5 : StableHlo.TRef sig ⟨S96, .i32⟩) (.of main_call3_v6 : StableHlo.TRef sig ⟨S96, .i1⟩) (cmpi .ne),
    StableHlo.TRef.unary (.of main_call3_v0 : StableHlo.TRef sig ⟨S_, .i32⟩) (.of main_call3_v7 : StableHlo.TRef sig ⟨S96, .i32⟩) (broadcastInDim S96 ![] bcast_S_S96),
    StableHlo.TRef.binary (.of main_v19 : StableHlo.TRef sig ⟨S96, .i32⟩) (.of main_call3_v7 : StableHlo.TRef sig ⟨S96, .i32⟩) (.of main_call3_v8 : StableHlo.TRef sig ⟨S96, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S96, .i32⟩) (broadcastInDim S96 ![] bcast_S_S96),
    StableHlo.TRef.binary (.of main_call3_v8 : StableHlo.TRef sig ⟨S96, .i32⟩) (.of main_call3_v9 : StableHlo.TRef sig ⟨S96, .i32⟩) (.of main_call3_v10 : StableHlo.TRef sig ⟨S96, .i1⟩) (cmpi .ne),
    StableHlo.TRef.binary (.of main_call3_v6 : StableHlo.TRef sig ⟨S96, .i1⟩) (.of main_call3_v10 : StableHlo.TRef sig ⟨S96, .i1⟩) (.of main_call3_v11 : StableHlo.TRef sig ⟨S96, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S96, .i32⟩) (broadcastInDim S96 ![] bcast_S_S96),
    StableHlo.TRef.binary (.of main_call3_v2 : StableHlo.TRef sig ⟨S96, .i32⟩) (.of main_call3_v12 : StableHlo.TRef sig ⟨S96, .i32⟩) (.of main_call3_v13 : StableHlo.TRef sig ⟨S96, .i32⟩) subi,
    StableHlo.TRef.ternary (.of main_call3_v11 : StableHlo.TRef sig ⟨S96, .i1⟩) (.of main_call3_v13 : StableHlo.TRef sig ⟨S96, .i32⟩) (.of main_call3_v2 : StableHlo.TRef sig ⟨S96, .i32⟩) (.of main_v20 : StableHlo.TRef sig ⟨S96, .i32⟩) select,
    StableHlo.nullary main_c_5 (constantI S_ 32 96#32),
    StableHlo.unary main_c_5 main_v21 (broadcastInDim S96 ![] bcast_S_S96 : (⟨S_, .i32⟩ : BufTy).Contents (Elt F) → (⟨S96, .i32⟩ : BufTy).Contents (Elt F)),
    StableHlo.binary main_v20 main_v21 main_v22 (muli : (⟨S96, .i32⟩ : BufTy).Contents (Elt F) → (⟨S96, .i32⟩ : BufTy).Contents (Elt F) → (⟨S96, .i32⟩ : BufTy).Contents (Elt F)),
    StableHlo.unary main_v22 main_v23 (broadcastInDim S96x1 ![0] bcast_S96_S96x1_0 : (⟨S96, .i32⟩ : BufTy).Contents (Elt F) → (⟨S96x1, .i32⟩ : BufTy).Contents (Elt F)),
    StableHlo.unary main_v23 main_v24 (broadcastInDim S96x4 ![0, 1] bcast_S96x1_S96x4_0_1 : (⟨S96x1, .i32⟩ : BufTy).Contents (Elt F) → (⟨S96x4, .i32⟩ : BufTy).Contents (Elt F)),
    StableHlo.binary main_arg2 main_v24 main_v25 (addi : (⟨S96x4, .i32⟩ : BufTy).Contents (Elt F) → (⟨S96x4, .i32⟩ : BufTy).Contents (Elt F) → (⟨S96x4, .i32⟩ : BufTy).Contents (Elt F)),
    StableHlo.nullary main_v26 (iotaInDim S224 32 0),
    StableHlo.nullary main_c_6 (constantI S_ 32 1#32),
    StableHlo.unary main_c_6 main_v27 (broadcastInDim S224 ![] bcast_S_S224 : (⟨S_, .i32⟩ : BufTy).Contents (Elt F) → (⟨S224, .i32⟩ : BufTy).Contents (Elt F)),
    StableHlo.binary main_v26 main_v27 main_v28 (muli : (⟨S224, .i32⟩ : BufTy).Contents (Elt F) → (⟨S224, .i32⟩ : BufTy).Contents (Elt F) → (⟨S224, .i32⟩ : BufTy).Contents (Elt F)),
    StableHlo.nullary main_v29 (iotaInDim S224 32 0),
    StableHlo.nullary main_c_7 (constantI S_ 32 1#32),
    StableHlo.unary main_c_7 main_v30 (broadcastInDim S224 ![] bcast_S_S224 : (⟨S_, .i32⟩ : BufTy).Contents (Elt F) → (⟨S224, .i32⟩ : BufTy).Contents (Elt F)),
    StableHlo.binary main_v29 main_v30 main_v31 (muli : (⟨S224, .i32⟩ : BufTy).Contents (Elt F) → (⟨S224, .i32⟩ : BufTy).Contents (Elt F) → (⟨S224, .i32⟩ : BufTy).Contents (Elt F)),
    StableHlo.unary main_v28 main_v32 (broadcastInDim S1x1x224 ![2] bcast_S224_S1x1x224_2 : (⟨S224, .i32⟩ : BufTy).Contents (Elt F) → (⟨S1x1x224, .i32⟩ : BufTy).Contents (Elt F)),
    StableHlo.unary main_arg4 main_v33 (broadcastInDim S96x4x1 ![0, 1] bcast_S96x4_S96x4x1_0_1 : (⟨S96x4, .i32⟩ : BufTy).Contents (Elt F) → (⟨S96x4x1, .i32⟩ : BufTy).Contents (Elt F)),
    StableHlo.unary main_v32 main_v34 (broadcastInDim S96x4x224 ![0, 1, 2] bcast_S1x1x224_S96x4x224_0_1_2 : (⟨S1x1x224, .i32⟩ : BufTy).Contents (Elt F) → (⟨S96x4x224, .i32⟩ : BufTy).Contents (Elt F)),
    StableHlo.unary main_v33 main_v35 (broadcastInDim S96x4x224 ![0, 1, 2] bcast_S96x4x1_S96x4x224_0_1_2 : (⟨S96x4x1, .i32⟩ : BufTy).Contents (Elt F) → (⟨S96x4x224, .i32⟩ : BufTy).Contents (Elt F)),
    StableHlo.binary main_v34 main_v35 main_v36 (addi : (⟨S96x4x224, .i32⟩ : BufTy).Contents (Elt F) → (⟨S96x4x224, .i32⟩ : BufTy).Contents (Elt F) → (⟨S96x4x224, .i32⟩ : BufTy).Contents (Elt F)),
    StableHlo.unary main_v31 main_v37 (broadcastInDim S1x1x224 ![2] bcast_S224_S1x1x224_2 : (⟨S224, .i32⟩ : BufTy).Contents (Elt F) → (⟨S1x1x224, .i32⟩ : BufTy).Contents (Elt F)),
    StableHlo.unary main_arg3 main_v38 (broadcastInDim S96x4x1 ![0, 1] bcast_S96x4_S96x4x1_0_1 : (⟨S96x4, .i32⟩ : BufTy).Contents (Elt F) → (⟨S96x4x1, .i32⟩ : BufTy).Contents (Elt F)),
    StableHlo.unary main_v37 main_v39 (broadcastInDim S96x4x224 ![0, 1, 2] bcast_S1x1x224_S96x4x224_0_1_2 : (⟨S1x1x224, .i32⟩ : BufTy).Contents (Elt F) → (⟨S96x4x224, .i32⟩ : BufTy).Contents (Elt F)),
    StableHlo.unary main_v38 main_v40 (broadcastInDim S96x4x224 ![0, 1, 2] bcast_S96x4x1_S96x4x224_0_1_2 : (⟨S96x4x1, .i32⟩ : BufTy).Contents (Elt F) → (⟨S96x4x224, .i32⟩ : BufTy).Contents (Elt F)),
    StableHlo.binary main_v39 main_v40 main_v41 (addi : (⟨S96x4x224, .i32⟩ : BufTy).Contents (Elt F) → (⟨S96x4x224, .i32⟩ : BufTy).Contents (Elt F) → (⟨S96x4x224, .i32⟩ : BufTy).Contents (Elt F)),
    StableHlo.unary main_v25 main_v42 (broadcastInDim S96x4x1x1 ![0, 1] bcast_S96x4_S96x4x1x1_0_1 : (⟨S96x4, .i32⟩ : BufTy).Contents (Elt F) → (⟨S96x4x1x1, .i32⟩ : BufTy).Contents (Elt F)),
    StableHlo.unary main_v36 main_v43 (broadcastInDim S96x4x224x1 ![0, 1, 2] bcast_S96x4x224_S96x4x224x1_0_1_2 : (⟨S96x4x224, .i32⟩ : BufTy).Contents (Elt F) → (⟨S96x4x224x1, .i32⟩ : BufTy).Contents (Elt F)),
    StableHlo.unary main_v41 main_v44 (broadcastInDim S96x4x1x224 ![0, 1, 3] bcast_S96x4x224_S96x4x1x224_0_1_3 : (⟨S96x4x224, .i32⟩ : BufTy).Contents (Elt F) → (⟨S96x4x1x224, .i32⟩ : BufTy).Contents (Elt F)),
    StableHlo.nullary main_c_8 (constantI S_ 32 0#32),
    StableHlo.unary main_c_8 main_v45 (broadcastInDim S96x4x1x1 ![] bcast_S_S96x4x1x1 : (⟨S_, .i32⟩ : BufTy).Contents (Elt F) → (⟨S96x4x1x1, .i32⟩ : BufTy).Contents (Elt F)),
    StableHlo.binary main_v42 main_v45 main_v46 (cmpi .slt : (⟨S96x4x1x1, .i32⟩ : BufTy).Contents (Elt F) → (⟨S96x4x1x1, .i32⟩ : BufTy).Contents (Elt F) → (⟨S96x4x1x1, .i1⟩ : BufTy).Contents (Elt F)),
    StableHlo.nullary main_c_9 (constantI S_ 32 96#32),
    StableHlo.unary main_c_9 main_v47 (broadcastInDim S96x4x1x1 ![] bcast_S_S96x4x1x1 : (⟨S_, .i32⟩ : BufTy).Contents (Elt F) → (⟨S96x4x1x1, .i32⟩ : BufTy).Contents (Elt F)),
    StableHlo.binary main_v42 main_v47 main_v48 (addi : (⟨S96x4x1x1, .i32⟩ : BufTy).Contents (Elt F) → (⟨S96x4x1x1, .i32⟩ : BufTy).Contents (Elt F) → (⟨S96x4x1x1, .i32⟩ : BufTy).Contents (Elt F)),
    StableHlo.ternary main_v46 main_v48 main_v42 main_v49 (select : (⟨S96x4x1x1, .i1⟩ : BufTy).Contents (Elt F) → (⟨S96x4x1x1, .i32⟩ : BufTy).Contents (Elt F) → (⟨S96x4x1x1, .i32⟩ : BufTy).Contents (Elt F) → (⟨S96x4x1x1, .i32⟩ : BufTy).Contents (Elt F)),
    StableHlo.nullary main_c_10 (constantI S_ 32 0#32),
    StableHlo.unary main_c_10 main_v50 (broadcastInDim S96x4x224x1 ![] bcast_S_S96x4x224x1 : (⟨S_, .i32⟩ : BufTy).Contents (Elt F) → (⟨S96x4x224x1, .i32⟩ : BufTy).Contents (Elt F)),
    StableHlo.binary main_v43 main_v50 main_v51 (cmpi .slt : (⟨S96x4x224x1, .i32⟩ : BufTy).Contents (Elt F) → (⟨S96x4x224x1, .i32⟩ : BufTy).Contents (Elt F) → (⟨S96x4x224x1, .i1⟩ : BufTy).Contents (Elt F)),
    StableHlo.nullary main_c_11 (constantI S_ 32 226#32),
    StableHlo.unary main_c_11 main_v52 (broadcastInDim S96x4x224x1 ![] bcast_S_S96x4x224x1 : (⟨S_, .i32⟩ : BufTy).Contents (Elt F) → (⟨S96x4x224x1, .i32⟩ : BufTy).Contents (Elt F)),
    StableHlo.binary main_v43 main_v52 main_v53 (addi : (⟨S96x4x224x1, .i32⟩ : BufTy).Contents (Elt F) → (⟨S96x4x224x1, .i32⟩ : BufTy).Contents (Elt F) → (⟨S96x4x224x1, .i32⟩ : BufTy).Contents (Elt F)),
    StableHlo.ternary main_v51 main_v53 main_v43 main_v54 (select : (⟨S96x4x224x1, .i1⟩ : BufTy).Contents (Elt F) → (⟨S96x4x224x1, .i32⟩ : BufTy).Contents (Elt F) → (⟨S96x4x224x1, .i32⟩ : BufTy).Contents (Elt F) → (⟨S96x4x224x1, .i32⟩ : BufTy).Contents (Elt F)),
    StableHlo.nullary main_c_12 (constantI S_ 32 0#32),
    StableHlo.unary main_c_12 main_v55 (broadcastInDim S96x4x1x224 ![] bcast_S_S96x4x1x224 : (⟨S_, .i32⟩ : BufTy).Contents (Elt F) → (⟨S96x4x1x224, .i32⟩ : BufTy).Contents (Elt F)),
    StableHlo.binary main_v44 main_v55 main_v56 (cmpi .slt : (⟨S96x4x1x224, .i32⟩ : BufTy).Contents (Elt F) → (⟨S96x4x1x224, .i32⟩ : BufTy).Contents (Elt F) → (⟨S96x4x1x224, .i1⟩ : BufTy).Contents (Elt F)),
    StableHlo.nullary main_c_13 (constantI S_ 32 226#32),
    StableHlo.unary main_c_13 main_v57 (broadcastInDim S96x4x1x224 ![] bcast_S_S96x4x1x224 : (⟨S_, .i32⟩ : BufTy).Contents (Elt F) → (⟨S96x4x1x224, .i32⟩ : BufTy).Contents (Elt F)),
    StableHlo.binary main_v44 main_v57 main_v58 (addi : (⟨S96x4x1x224, .i32⟩ : BufTy).Contents (Elt F) → (⟨S96x4x1x224, .i32⟩ : BufTy).Contents (Elt F) → (⟨S96x4x1x224, .i32⟩ : BufTy).Contents (Elt F)),
    StableHlo.ternary main_v56 main_v58 main_v44 main_v59 (select : (⟨S96x4x1x224, .i1⟩ : BufTy).Contents (Elt F) → (⟨S96x4x1x224, .i32⟩ : BufTy).Contents (Elt F) → (⟨S96x4x1x224, .i32⟩ : BufTy).Contents (Elt F) → (⟨S96x4x1x224, .i32⟩ : BufTy).Contents (Elt F)),
    StableHlo.unary main_v49 main_v60 (broadcastInDim S96x4x224x224 ![0, 1, 2, 3] bcast_S96x4x1x1_S96x4x224x224_0_1_2_3 : (⟨S96x4x1x1, .i32⟩ : BufTy).Contents (Elt F) → (⟨S96x4x224x224, .i32⟩ : BufTy).Contents (Elt F)),
    StableHlo.unary main_v54 main_v61 (broadcastInDim S96x4x224x224 ![0, 1, 2, 3] bcast_S96x4x224x1_S96x4x224x224_0_1_2_3 : (⟨S96x4x224x1, .i32⟩ : BufTy).Contents (Elt F) → (⟨S96x4x224x224, .i32⟩ : BufTy).Contents (Elt F)),
    StableHlo.unary main_v59 main_v62 (broadcastInDim S96x4x224x224 ![0, 1, 2, 3] bcast_S96x4x1x224_S96x4x224x224_0_1_2_3 : (⟨S96x4x1x224, .i32⟩ : BufTy).Contents (Elt F) → (⟨S96x4x224x224, .i32⟩ : BufTy).Contents (Elt F)),
    StableHlo.unary main_v60 main_v63 (broadcastInDim S96x4x224x224x1 ![0, 1, 2, 3] bcast_S96x4x224x224_S96x4x224x224x1_0_1_2_3 : (⟨S96x4x224x224, .i32⟩ : BufTy).Contents (Elt F) → (⟨S96x4x224x224x1, .i32⟩ : BufTy).Contents (Elt F)),
    StableHlo.unary main_v61 main_v64 (broadcastInDim S96x4x224x224x1 ![0, 1, 2, 3] bcast_S96x4x224x224_S96x4x224x224x1_0_1_2_3 : (⟨S96x4x224x224, .i32⟩ : BufTy).Contents (Elt F) → (⟨S96x4x224x224x1, .i32⟩ : BufTy).Contents (Elt F)),
    StableHlo.unary main_v62 main_v65 (broadcastInDim S96x4x224x224x1 ![0, 1, 2, 3] bcast_S96x4x224x224_S96x4x224x224x1_0_1_2_3 : (⟨S96x4x224x224, .i32⟩ : BufTy).Contents (Elt F) → (⟨S96x4x224x224x1, .i32⟩ : BufTy).Contents (Elt F)),
    StableHlo.nary ![main_v63, main_v64, main_v65] main_v66 (fun u => (concatenate S96x4x224x224x3 4 [⟨S96x4x224x224x1, (u 0 : (⟨S96x4x224x224x1, .i32⟩ : BufTy).Contents (Elt F))⟩, ⟨S96x4x224x224x1, (u 1 : (⟨S96x4x224x224x1, .i32⟩ : BufTy).Contents (Elt F))⟩, ⟨S96x4x224x224x1, (u 2 : (⟨S96x4x224x224x1, .i32⟩ : BufTy).Contents (Elt F))⟩] concatenates_S96x4x224x224x1_S96x4x224x224x1_S96x4x224x224x1_S96x4x224x224x3_d4 : (⟨S96x4x224x224x3, .i32⟩ : BufTy).Contents (Elt F))),
    StableHlo.binary main_v0 main_v66 main_v67 ((fun x i => Host.gather gather_S4x96x226x226_S96x4x224x224x3_S4x96x4x224x224_0_123_n_n_123_4_4111 x i) : (⟨S4x96x226x226, .f32⟩ : BufTy).Contents (Elt F) → (⟨S96x4x224x224x3, .i32⟩ : BufTy).Contents (Elt F) → (⟨S4x96x4x224x224, .f32⟩ : BufTy).Contents (Elt F)) ]

/-- The operations of the first level of gates. -/
abbrev opsGates : List (HloOp τ sig (Elt F)) :=
  [ StableHlo.unary main_v67 main_v68 ((Host.slice S4x96x2x224x224 ![0, 0, 0, 0, 0] ![1, 1, 2, 1, 1] · slicesBy_S4x96x4x224x224_S4x96x2x224x224_0s1_0s1_0s2_0s1_0s1) : (⟨S4x96x4x224x224, .f32⟩ : BufTy).Contents (Elt F) → (⟨S4x96x2x224x224, .f32⟩ : BufTy).Contents (Elt F)),
    StableHlo.unary main_v67 main_v69 ((Host.slice S4x96x2x224x224 ![0, 0, 1, 0, 0] ![1, 1, 2, 1, 1] · slicesBy_S4x96x4x224x224_S4x96x2x224x224_0s1_0s1_1s2_0s1_0s1) : (⟨S4x96x4x224x224, .f32⟩ : BufTy).Contents (Elt F) → (⟨S4x96x2x224x224, .f32⟩ : BufTy).Contents (Elt F)),
    StableHlo.unary main_v18 main_v70 ((extractStridedSlice S96x2x4 ![0, 0, 0] · slices_S96x3x4_S96x2x4_0_0_0) : (⟨S96x3x4, .f32⟩ : BufTy).Contents (Elt F) → (⟨S96x2x4, .f32⟩ : BufTy).Contents (Elt F)),
    StableHlo.unary main_v70 main_v71 ((extractStridedSlice S96x2x1 ![0, 0, 0] · slices_S96x2x4_S96x2x1_0_0_0) : (⟨S96x2x4, .f32⟩ : BufTy).Contents (Elt F) → (⟨S96x2x1, .f32⟩ : BufTy).Contents (Elt F)),
    StableHlo.reshape main_v71 main_v72 (rfl : (.f32 : EltTy) = .f32) shapeCasts_S96x2x1_S96x2,
    StableHlo.unary main_v72 main_v73 (broadcastInDim S1x96x2x1x1 ![1, 2] bcast_S96x2_S1x96x2x1x1_1_2 : (⟨S96x2, .f32⟩ : BufTy).Contents (Elt F) → (⟨S1x96x2x1x1, .f32⟩ : BufTy).Contents (Elt F)),
    StableHlo.unary main_v70 main_v74 ((extractStridedSlice S96x2x1 ![0, 0, 1] · slices_S96x2x4_S96x2x1_0_0_1) : (⟨S96x2x4, .f32⟩ : BufTy).Contents (Elt F) → (⟨S96x2x1, .f32⟩ : BufTy).Contents (Elt F)),
    StableHlo.reshape main_v74 main_v75 (rfl : (.f32 : EltTy) = .f32) shapeCasts_S96x2x1_S96x2,
    StableHlo.unary main_v75 main_v76 (broadcastInDim S1x96x2x1x1 ![1, 2] bcast_S96x2_S1x96x2x1x1_1_2 : (⟨S96x2, .f32⟩ : BufTy).Contents (Elt F) → (⟨S1x96x2x1x1, .f32⟩ : BufTy).Contents (Elt F)),
    StableHlo.unary main_v70 main_v77 ((extractStridedSlice S96x2x1 ![0, 0, 2] · slices_S96x2x4_S96x2x1_0_0_2) : (⟨S96x2x4, .f32⟩ : BufTy).Contents (Elt F) → (⟨S96x2x1, .f32⟩ : BufTy).Contents (Elt F)),
    StableHlo.reshape main_v77 main_v78 (rfl : (.f32 : EltTy) = .f32) shapeCasts_S96x2x1_S96x2,
    StableHlo.unary main_v78 main_v79 (broadcastInDim S1x96x2x1x1 ![1, 2] bcast_S96x2_S1x96x2x1x1_1_2 : (⟨S96x2, .f32⟩ : BufTy).Contents (Elt F) → (⟨S1x96x2x1x1, .f32⟩ : BufTy).Contents (Elt F)),
    StableHlo.unary main_v70 main_v80 ((extractStridedSlice S96x2x1 ![0, 0, 3] · slices_S96x2x4_S96x2x1_0_0_3) : (⟨S96x2x4, .f32⟩ : BufTy).Contents (Elt F) → (⟨S96x2x1, .f32⟩ : BufTy).Contents (Elt F)),
    StableHlo.reshape main_v80 main_v81 (rfl : (.f32 : EltTy) = .f32) shapeCasts_S96x2x1_S96x2,
    StableHlo.unary main_v81 main_v82 (broadcastInDim S1x96x2x1x1 ![1, 2] bcast_S96x2_S1x96x2x1x1_1_2 : (⟨S96x2, .f32⟩ : BufTy).Contents (Elt F) → (⟨S1x96x2x1x1, .f32⟩ : BufTy).Contents (Elt F)),
    StableHlo.unary main_v76 main_v83 (broadcastInDim S4x96x2x224x224 ![0, 1, 2, 3, 4] bcast_S1x96x2x1x1_S4x96x2x224x224_0_1_2_3_4 : (⟨S1x96x2x1x1, .f32⟩ : BufTy).Contents (Elt F) → (⟨S4x96x2x224x224, .f32⟩ : BufTy).Contents (Elt F)),
    StableHlo.binary main_v83 main_v68 main_v84 (mulf : (⟨S4x96x2x224x224, .f32⟩ : BufTy).Contents (Elt F) → (⟨S4x96x2x224x224, .f32⟩ : BufTy).Contents (Elt F) → (⟨S4x96x2x224x224, .f32⟩ : BufTy).Contents (Elt F)),
    StableHlo.unary main_v73 main_v85 (broadcastInDim S4x96x2x224x224 ![0, 1, 2, 3, 4] bcast_S1x96x2x1x1_S4x96x2x224x224_0_1_2_3_4 : (⟨S1x96x2x1x1, .f32⟩ : BufTy).Contents (Elt F) → (⟨S4x96x2x224x224, .f32⟩ : BufTy).Contents (Elt F)),
    StableHlo.binary main_v85 main_v84 main_v86 (addf : (⟨S4x96x2x224x224, .f32⟩ : BufTy).Contents (Elt F) → (⟨S4x96x2x224x224, .f32⟩ : BufTy).Contents (Elt F) → (⟨S4x96x2x224x224, .f32⟩ : BufTy).Contents (Elt F)),
    StableHlo.unary main_v79 main_v87 (broadcastInDim S4x96x2x224x224 ![0, 1, 2, 3, 4] bcast_S1x96x2x1x1_S4x96x2x224x224_0_1_2_3_4 : (⟨S1x96x2x1x1, .f32⟩ : BufTy).Contents (Elt F) → (⟨S4x96x2x224x224, .f32⟩ : BufTy).Contents (Elt F)),
    StableHlo.binary main_v87 main_v69 main_v88 (mulf : (⟨S4x96x2x224x224, .f32⟩ : BufTy).Contents (Elt F) → (⟨S4x96x2x224x224, .f32⟩ : BufTy).Contents (Elt F) → (⟨S4x96x2x224x224, .f32⟩ : BufTy).Contents (Elt F)),
    StableHlo.binary main_v86 main_v88 main_v89 (addf : (⟨S4x96x2x224x224, .f32⟩ : BufTy).Contents (Elt F) → (⟨S4x96x2x224x224, .f32⟩ : BufTy).Contents (Elt F) → (⟨S4x96x2x224x224, .f32⟩ : BufTy).Contents (Elt F)),
    StableHlo.binary main_v68 main_v69 main_v90 (mulf : (⟨S4x96x2x224x224, .f32⟩ : BufTy).Contents (Elt F) → (⟨S4x96x2x224x224, .f32⟩ : BufTy).Contents (Elt F) → (⟨S4x96x2x224x224, .f32⟩ : BufTy).Contents (Elt F)),
    StableHlo.unary main_v82 main_v91 (broadcastInDim S4x96x2x224x224 ![0, 1, 2, 3, 4] bcast_S1x96x2x1x1_S4x96x2x224x224_0_1_2_3_4 : (⟨S1x96x2x1x1, .f32⟩ : BufTy).Contents (Elt F) → (⟨S4x96x2x224x224, .f32⟩ : BufTy).Contents (Elt F)),
    StableHlo.binary main_v91 main_v90 main_v92 (mulf : (⟨S4x96x2x224x224, .f32⟩ : BufTy).Contents (Elt F) → (⟨S4x96x2x224x224, .f32⟩ : BufTy).Contents (Elt F) → (⟨S4x96x2x224x224, .f32⟩ : BufTy).Contents (Elt F)),
    StableHlo.binary main_v89 main_v92 main_v93 (addf : (⟨S4x96x2x224x224, .f32⟩ : BufTy).Contents (Elt F) → (⟨S4x96x2x224x224, .f32⟩ : BufTy).Contents (Elt F) → (⟨S4x96x2x224x224, .f32⟩ : BufTy).Contents (Elt F)) ]

/-- The operations of the second level. -/
abbrev opsGate : List (HloOp τ sig (Elt F)) :=
  [ StableHlo.unary main_v93 main_v94 ((Host.slice S4x96x1x224x224 ![0, 0, 0, 0, 0] ![1, 1, 2, 1, 1] · slicesBy_S4x96x2x224x224_S4x96x1x224x224_0s1_0s1_0s2_0s1_0s1) : (⟨S4x96x2x224x224, .f32⟩ : BufTy).Contents (Elt F) → (⟨S4x96x1x224x224, .f32⟩ : BufTy).Contents (Elt F)),
    StableHlo.unary main_v93 main_v95 ((Host.slice S4x96x1x224x224 ![0, 0, 1, 0, 0] ![1, 1, 2, 1, 1] · slicesBy_S4x96x2x224x224_S4x96x1x224x224_0s1_0s1_1s2_0s1_0s1) : (⟨S4x96x2x224x224, .f32⟩ : BufTy).Contents (Elt F) → (⟨S4x96x1x224x224, .f32⟩ : BufTy).Contents (Elt F)),
    StableHlo.unary main_v18 main_v96 ((extractStridedSlice S96x1x4 ![0, 2, 0] · slices_S96x3x4_S96x1x4_0_2_0) : (⟨S96x3x4, .f32⟩ : BufTy).Contents (Elt F) → (⟨S96x1x4, .f32⟩ : BufTy).Contents (Elt F)),
    StableHlo.unary main_v96 main_v97 ((extractStridedSlice S96x1x1 ![0, 0, 0] · slices_S96x1x4_S96x1x1_0_0_0) : (⟨S96x1x4, .f32⟩ : BufTy).Contents (Elt F) → (⟨S96x1x1, .f32⟩ : BufTy).Contents (Elt F)),
    StableHlo.reshape main_v97 main_v98 (rfl : (.f32 : EltTy) = .f32) shapeCasts_S96x1x1_S96x1,
    StableHlo.unary main_v98 main_v99 (broadcastInDim S1x96x1x1x1 ![1, 2] bcast_S96x1_S1x96x1x1x1_1_2 : (⟨S96x1, .f32⟩ : BufTy).Contents (Elt F) → (⟨S1x96x1x1x1, .f32⟩ : BufTy).Contents (Elt F)),
    StableHlo.unary main_v96 main_v100 ((extractStridedSlice S96x1x1 ![0, 0, 1] · slices_S96x1x4_S96x1x1_0_0_1) : (⟨S96x1x4, .f32⟩ : BufTy).Contents (Elt F) → (⟨S96x1x1, .f32⟩ : BufTy).Contents (Elt F)),
    StableHlo.reshape main_v100 main_v101 (rfl : (.f32 : EltTy) = .f32) shapeCasts_S96x1x1_S96x1,
    StableHlo.unary main_v101 main_v102 (broadcastInDim S1x96x1x1x1 ![1, 2] bcast_S96x1_S1x96x1x1x1_1_2 : (⟨S96x1, .f32⟩ : BufTy).Contents (Elt F) → (⟨S1x96x1x1x1, .f32⟩ : BufTy).Contents (Elt F)),
    StableHlo.unary main_v96 main_v103 ((extractStridedSlice S96x1x1 ![0, 0, 2] · slices_S96x1x4_S96x1x1_0_0_2) : (⟨S96x1x4, .f32⟩ : BufTy).Contents (Elt F) → (⟨S96x1x1, .f32⟩ : BufTy).Contents (Elt F)),
    StableHlo.reshape main_v103 main_v104 (rfl : (.f32 : EltTy) = .f32) shapeCasts_S96x1x1_S96x1,
    StableHlo.unary main_v104 main_v105 (broadcastInDim S1x96x1x1x1 ![1, 2] bcast_S96x1_S1x96x1x1x1_1_2 : (⟨S96x1, .f32⟩ : BufTy).Contents (Elt F) → (⟨S1x96x1x1x1, .f32⟩ : BufTy).Contents (Elt F)),
    StableHlo.unary main_v96 main_v106 ((extractStridedSlice S96x1x1 ![0, 0, 3] · slices_S96x1x4_S96x1x1_0_0_3) : (⟨S96x1x4, .f32⟩ : BufTy).Contents (Elt F) → (⟨S96x1x1, .f32⟩ : BufTy).Contents (Elt F)),
    StableHlo.reshape main_v106 main_v107 (rfl : (.f32 : EltTy) = .f32) shapeCasts_S96x1x1_S96x1,
    StableHlo.unary main_v107 main_v108 (broadcastInDim S1x96x1x1x1 ![1, 2] bcast_S96x1_S1x96x1x1x1_1_2 : (⟨S96x1, .f32⟩ : BufTy).Contents (Elt F) → (⟨S1x96x1x1x1, .f32⟩ : BufTy).Contents (Elt F)),
    StableHlo.unary main_v102 main_v109 (broadcastInDim S4x96x1x224x224 ![0, 1, 2, 3, 4] bcast_S1x96x1x1x1_S4x96x1x224x224_0_1_2_3_4 : (⟨S1x96x1x1x1, .f32⟩ : BufTy).Contents (Elt F) → (⟨S4x96x1x224x224, .f32⟩ : BufTy).Contents (Elt F)),
    StableHlo.binary main_v109 main_v94 main_v110 (mulf : (⟨S4x96x1x224x224, .f32⟩ : BufTy).Contents (Elt F) → (⟨S4x96x1x224x224, .f32⟩ : BufTy).Contents (Elt F) → (⟨S4x96x1x224x224, .f32⟩ : BufTy).Contents (Elt F)),
    StableHlo.unary main_v99 main_v111 (broadcastInDim S4x96x1x224x224 ![0, 1, 2, 3, 4] bcast_S1x96x1x1x1_S4x96x1x224x224_0_1_2_3_4 : (⟨S1x96x1x1x1, .f32⟩ : BufTy).Contents (Elt F) → (⟨S4x96x1x224x224, .f32⟩ : BufTy).Contents (Elt F)),
    StableHlo.binary main_v111 main_v110 main_v112 (addf : (⟨S4x96x1x224x224, .f32⟩ : BufTy).Contents (Elt F) → (⟨S4x96x1x224x224, .f32⟩ : BufTy).Contents (Elt F) → (⟨S4x96x1x224x224, .f32⟩ : BufTy).Contents (Elt F)),
    StableHlo.unary main_v105 main_v113 (broadcastInDim S4x96x1x224x224 ![0, 1, 2, 3, 4] bcast_S1x96x1x1x1_S4x96x1x224x224_0_1_2_3_4 : (⟨S1x96x1x1x1, .f32⟩ : BufTy).Contents (Elt F) → (⟨S4x96x1x224x224, .f32⟩ : BufTy).Contents (Elt F)),
    StableHlo.binary main_v113 main_v95 main_v114 (mulf : (⟨S4x96x1x224x224, .f32⟩ : BufTy).Contents (Elt F) → (⟨S4x96x1x224x224, .f32⟩ : BufTy).Contents (Elt F) → (⟨S4x96x1x224x224, .f32⟩ : BufTy).Contents (Elt F)),
    StableHlo.binary main_v112 main_v114 main_v115 (addf : (⟨S4x96x1x224x224, .f32⟩ : BufTy).Contents (Elt F) → (⟨S4x96x1x224x224, .f32⟩ : BufTy).Contents (Elt F) → (⟨S4x96x1x224x224, .f32⟩ : BufTy).Contents (Elt F)),
    StableHlo.binary main_v94 main_v95 main_v116 (mulf : (⟨S4x96x1x224x224, .f32⟩ : BufTy).Contents (Elt F) → (⟨S4x96x1x224x224, .f32⟩ : BufTy).Contents (Elt F) → (⟨S4x96x1x224x224, .f32⟩ : BufTy).Contents (Elt F)),
    StableHlo.unary main_v108 main_v117 (broadcastInDim S4x96x1x224x224 ![0, 1, 2, 3, 4] bcast_S1x96x1x1x1_S4x96x1x224x224_0_1_2_3_4 : (⟨S1x96x1x1x1, .f32⟩ : BufTy).Contents (Elt F) → (⟨S4x96x1x224x224, .f32⟩ : BufTy).Contents (Elt F)),
    StableHlo.binary main_v117 main_v116 main_v118 (mulf : (⟨S4x96x1x224x224, .f32⟩ : BufTy).Contents (Elt F) → (⟨S4x96x1x224x224, .f32⟩ : BufTy).Contents (Elt F) → (⟨S4x96x1x224x224, .f32⟩ : BufTy).Contents (Elt F)),
    StableHlo.binary main_v115 main_v118 main_v119 (addf : (⟨S4x96x1x224x224, .f32⟩ : BufTy).Contents (Elt F) → (⟨S4x96x1x224x224, .f32⟩ : BufTy).Contents (Elt F) → (⟨S4x96x1x224x224, .f32⟩ : BufTy).Contents (Elt F)) ]

/-- The operations of the pooling. -/
abbrev opsPool : List (HloOp τ sig (Elt F)) :=
  [ StableHlo.reshape main_v119 main_v120 (rfl : (.f32 : EltTy) = .f32) shapeCasts_S4x96x1x224x224_S4x96x224x224,
    StableHlo.reshape main_v120 main_v121 (rfl : (.f32 : EltTy) = .f32) shapeCasts_S4x96x224x224_S4x96x112x2x112x2,
    StableHlo.nullary main_cst_14 (constant S_ .f32 0x3F800000#32),
    StableHlo.unary main_cst_14 main_v122 (broadcastInDim S4x96x112x2x112x2 ![] bcast_S_S4x96x112x2x112x2 : (⟨S_, .f32⟩ : BufTy).Contents (Elt F) → (⟨S4x96x112x2x112x2, .f32⟩ : BufTy).Contents (Elt F)),
    StableHlo.binary main_v122 main_v121 main_v123 (subf : (⟨S4x96x112x2x112x2, .f32⟩ : BufTy).Contents (Elt F) → (⟨S4x96x112x2x112x2, .f32⟩ : BufTy).Contents (Elt F) → (⟨S4x96x112x2x112x2, .f32⟩ : BufTy).Contents (Elt F)),
    StableHlo.unary main_v123 main_v124 ((extractStridedSlice S4x96x112x1x112x1 ![0, 0, 0, 0, 0, 0] · slices_S4x96x112x2x112x2_S4x96x112x1x112x1_0_0_0_0_0_0) : (⟨S4x96x112x2x112x2, .f32⟩ : BufTy).Contents (Elt F) → (⟨S4x96x112x1x112x1, .f32⟩ : BufTy).Contents (Elt F)),
    StableHlo.reshape main_v124 main_v125 (rfl : (.f32 : EltTy) = .f32) shapeCasts_S4x96x112x1x112x1_S4x96x112x112,
    StableHlo.unary main_v123 main_v126 ((extractStridedSlice S4x96x112x1x112x1 ![0, 0, 0, 0, 0, 1] · slices_S4x96x112x2x112x2_S4x96x112x1x112x1_0_0_0_0_0_1) : (⟨S4x96x112x2x112x2, .f32⟩ : BufTy).Contents (Elt F) → (⟨S4x96x112x1x112x1, .f32⟩ : BufTy).Contents (Elt F)),
    StableHlo.reshape main_v126 main_v127 (rfl : (.f32 : EltTy) = .f32) shapeCasts_S4x96x112x1x112x1_S4x96x112x112,
    StableHlo.binary main_v125 main_v127 main_v128 (mulf : (⟨S4x96x112x112, .f32⟩ : BufTy).Contents (Elt F) → (⟨S4x96x112x112, .f32⟩ : BufTy).Contents (Elt F) → (⟨S4x96x112x112, .f32⟩ : BufTy).Contents (Elt F)),
    StableHlo.unary main_v123 main_v129 ((extractStridedSlice S4x96x112x1x112x1 ![0, 0, 0, 1, 0, 0] · slices_S4x96x112x2x112x2_S4x96x112x1x112x1_0_0_0_1_0_0) : (⟨S4x96x112x2x112x2, .f32⟩ : BufTy).Contents (Elt F) → (⟨S4x96x112x1x112x1, .f32⟩ : BufTy).Contents (Elt F)),
    StableHlo.reshape main_v129 main_v130 (rfl : (.f32 : EltTy) = .f32) shapeCasts_S4x96x112x1x112x1_S4x96x112x112,
    StableHlo.binary main_v128 main_v130 main_v131 (mulf : (⟨S4x96x112x112, .f32⟩ : BufTy).Contents (Elt F) → (⟨S4x96x112x112, .f32⟩ : BufTy).Contents (Elt F) → (⟨S4x96x112x112, .f32⟩ : BufTy).Contents (Elt F)),
    StableHlo.unary main_v123 main_v132 ((extractStridedSlice S4x96x112x1x112x1 ![0, 0, 0, 1, 0, 1] · slices_S4x96x112x2x112x2_S4x96x112x1x112x1_0_0_0_1_0_1) : (⟨S4x96x112x2x112x2, .f32⟩ : BufTy).Contents (Elt F) → (⟨S4x96x112x1x112x1, .f32⟩ : BufTy).Contents (Elt F)),
    StableHlo.reshape main_v132 main_v133 (rfl : (.f32 : EltTy) = .f32) shapeCasts_S4x96x112x1x112x1_S4x96x112x112,
    StableHlo.binary main_v131 main_v133 main_v134 (mulf : (⟨S4x96x112x112, .f32⟩ : BufTy).Contents (Elt F) → (⟨S4x96x112x112, .f32⟩ : BufTy).Contents (Elt F) → (⟨S4x96x112x112, .f32⟩ : BufTy).Contents (Elt F)),
    StableHlo.nullary main_cst_15 (constant S_ .f32 0x3F800000#32),
    StableHlo.unary main_cst_15 main_v135 (broadcastInDim S4x96x112x112 ![] bcast_S_S4x96x112x112 : (⟨S_, .f32⟩ : BufTy).Contents (Elt F) → (⟨S4x96x112x112, .f32⟩ : BufTy).Contents (Elt F)),
    StableHlo.binary main_v135 main_v134 main_v136 (subf : (⟨S4x96x112x112, .f32⟩ : BufTy).Contents (Elt F) → (⟨S4x96x112x112, .f32⟩ : BufTy).Contents (Elt F) → (⟨S4x96x112x112, .f32⟩ : BufTy).Contents (Elt F)) ]

/-- All of them, in order. -/
abbrev ops : List (HloOp τ sig (Elt F)) := opsWeights ++ (opsLeaves ++ (opsGates ++ (opsGate ++ opsPool)))

set_option maxHeartbeats 1600000 in
/-- The program is the line of these operations. -/
theorem main_seq (d : Dev nD) : StableHlo.IsSeq (main (F := F) d) (ops (F := F)) := by
  hlo_seq

variable (σ : Valuation τ sig (Elt F))

/-- What the first stretch leaves: the gate coefficients. -/
theorem weights_coeffs : StableHlo.after opsWeights σ (Proc.devRef .tc main_v18) = Stage.coeffs (Stage.weights (σ (Proc.devRef .tc main_arg1))) Stage.table := by
  after_reads_simp
  rfl

/-- The first stretch also leaves the images with their border. -/
theorem weights_padded : StableHlo.after opsWeights σ (Proc.devRef .tc main_v0) = Stage.padded (σ (Proc.devRef .tc main_arg0)) := by
  after_reads_simp
  rfl

/-- The first stretch leaves the channels as they were. -/
theorem weights_arg2 : StableHlo.after opsWeights σ (Proc.devRef .tc main_arg2) = σ (Proc.devRef .tc main_arg2) := by
  after_reads_simp

/-- The first stretch leaves the column offsets as they were. -/
theorem weights_arg3 : StableHlo.after opsWeights σ (Proc.devRef .tc main_arg3) = σ (Proc.devRef .tc main_arg3) := by
  after_reads_simp

/-- The first stretch leaves the row offsets as they were. -/
theorem weights_arg4 : StableHlo.after opsWeights σ (Proc.devRef .tc main_arg4) = σ (Proc.devRef .tc main_arg4) := by
  after_reads_simp

/-- The gathered leaves, of three integer arrays and padded images. -/
def gathered (p : FVec F S4x96x226x226 .f32) (a2 a3 a4 : IVec S96x4 32) : FVec F S4x96x4x224x224 .f32 :=
  Stage.leaves p (Stage.indices (Stage.channelIndex (Stage.channels a2 Stage.group)) (Stage.rowIndex (Stage.rows a4)) (Stage.columnIndex (Stage.columns a3)))

set_option maxHeartbeats 1600000 in
/-- What the second stretch leaves: the gathered leaves. -/
theorem leaves_gathered : StableHlo.after opsLeaves σ (Proc.devRef .tc main_v67)
    = gathered (σ (Proc.devRef .tc main_v0)) (σ (Proc.devRef .tc main_arg2)) (σ (Proc.devRef .tc main_arg3)) (σ (Proc.devRef .tc main_arg4)) := by
  after_reads_simp
  rfl

/-- The second stretch leaves the coefficients as they were. -/
theorem leaves_coeffs : StableHlo.after opsLeaves σ (Proc.devRef .tc main_v18) = σ (Proc.devRef .tc main_v18) := by
  after_reads_simp

/-- What the third stretch leaves: the two gates of the first level. -/
theorem gates_gates1 : StableHlo.after opsGates σ (Proc.devRef .tc main_v93) = Stage.gates1 (σ (Proc.devRef .tc main_v18)) (σ (Proc.devRef .tc main_v67)) := by
  after_reads_simp
  rfl

/-- The third stretch leaves the coefficients as they were. -/
theorem gates_coeffs : StableHlo.after opsGates σ (Proc.devRef .tc main_v18) = σ (Proc.devRef .tc main_v18) := by
  after_reads_simp

/-- What the fourth stretch leaves: the gate of the second level. -/
theorem gate_gate2 : StableHlo.after opsGate σ (Proc.devRef .tc main_v119) = Stage.gate2 (σ (Proc.devRef .tc main_v18)) (σ (Proc.devRef .tc main_v93)) := by
  after_reads_simp
  rfl

/-- What the last stretch leaves: the pooling. -/
theorem pool_pooled : StableHlo.after opsPool σ (Proc.devRef .tc main_v136) = Stage.pooled (σ (Proc.devRef .tc main_v119)) := by
  after_reads_simp
  rfl

/-- The reference's result, of its five arguments. -/
def result (a0 : FVec F S4x96x224x224 .f32) (a1 : FVec F S96x3x16 .f32) (a2 a3 a4 : IVec S96x4 32) : FVec F S4x96x112x112 .f32 :=
  Stage.pooled (Stage.gate2 (Stage.coeffs (Stage.weights a1) Stage.table)
    (Stage.gates1 (Stage.coeffs (Stage.weights a1) Stage.table) (gathered (Stage.padded a0) a2 a3 a4)))

/-- What the whole line leaves in the result buffer. -/
theorem after_ops : StableHlo.after ops σ (Proc.devRef .tc main_v136)
    = result (σ (Proc.devRef .tc main_arg0)) (σ (Proc.devRef .tc main_arg1)) (σ (Proc.devRef .tc main_arg2)) (σ (Proc.devRef .tc main_arg3)) (σ (Proc.devRef .tc main_arg4)) := by
  unfold ops result
  rw [StableHlo.after_append, StableHlo.after_append, StableHlo.after_append, StableHlo.after_append,
    pool_pooled, gate_gate2, gates_gates1, gates_coeffs, leaves_gathered, leaves_coeffs, weights_coeffs, weights_padded,
    weights_arg2, weights_arg3, weights_arg4]

/-- Every execution of the reference ends with that in the result. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v136) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) :=
  θ_run_mono (StableHlo.run_hlo _ _ main_seq (by decide) (by decide) (by simp)
    (by intro _ h; (repeat (cases h with | head => rfl | tail _ h => ?_)); exact nomatch h) m ρ)
    fun r h c => (h c main_v136).trans (after_ops (StableHlo.launchContents m c))

end Cert.ReferenceIdeal.Run

end
-- ==== Proof.RefCell.lean ====
/- The result of the reference at an index, over the extended reals. -/
module

public import proofs.«01_k».proof.Proof.RefPoint
public import proofs.«01_k».proof.Proof.RefRun
public import proofs.«01_k».proof.Proof.Cell

@[expose] public section

set_option maxRecDepth 16384

noncomputable section

namespace Cert.ReferenceIdeal.Run

open Cert.ReferenceIdeal Cert.ReferenceIdeal.Gen Cert.ReferenceIdeal.Stage Cert.Cell
open Idealize.ShloMosaic Idealize.ShloMosaic.TcCoe

/-- A gathered leaf is a cell of the bordered image its three indices name. -/
theorem gathered_apply (a0 : FVec Ideal S4x96x224x224 .f32) (a2 a3 a4 : IVec S96x4 32) (b : Fin 4) (o : Fin 96) (k : Fin 4) (i j : Fin 224)
    (h2 : (a2 (ix2 o k)).toNat < 96) (h3 : (a3 (ix2 o k)).toNat < 3) (h4 : (a4 (ix2 o k)).toNat < 3) :
    gathered (padded a0) a2 a3 a4 (ix5 b o k i j)
      = border (fun r q => a0 (ix4 b ⟨(a2 (ix2 o k)).toNat, h2⟩ r q)) (i.val + (a4 (ix2 o k)).toNat) (j.val + (a3 (ix2 o k)).toNat) := by
  unfold gathered
  obtain ⟨e0, e1, e2⟩ := indices_apply (channelIndex (channels a2 group)) (rowIndex (rows a4)) (columnIndex (columns a3)) o k i j
  have hi := i.isLt
  have hj := j.isLt
  rw [leaves_apply _ _ b o k i j ⟨(a2 (ix2 o k)).toNat, h2⟩ ⟨i.val + (a4 (ix2 o k)).toNat, by omega⟩ ⟨j.val + (a3 (ix2 o k)).toNat, by omega⟩
    (e0.trans (channel_apply a2 o k i j h2)) (e1.trans (row_apply a4 o k i j h4)) (e2.trans (column_apply a3 o k i j h3)), padded_apply]
  rfl

/-- The reference's result at an index: the pooled tree of the four leaves. -/
theorem result_apply (a0 : FVec Ideal S4x96x224x224 .f32) (a1 : FVec Ideal S96x3x16 .f32) (a2 a3 a4 : IVec S96x4 32)
    (h2 : ∀ y, (a2 y).toNat < 96) (h3 : ∀ y, (a3 y).toNat < 3) (h4 : ∀ y, (a4 y).toNat < 3) (b : Fin 4) (o : Fin 96) (i j : Fin 112) :
    result a0 a1 a2 a3 a4 (ix4 b o i j)
      = pool (fun h w => tree (fun g c => ∑ x : Fin 16, weights a1 (ix3 o g x) * table (ix2 x c))
          (fun k => border (fun r q => a0 (ix4 b ⟨(a2 (ix2 o k)).toNat, h2 _⟩ r q)) (h.val + (a4 (ix2 o k)).toNat) (w.val + (a3 (ix2 o k)).toNat))) i j := by
  have hcell : ∀ h w, gate2 (coeffs (weights a1) table) (gates1 (coeffs (weights a1) table) (gathered (padded a0) a2 a3 a4)) (ix5 b o 0 h w)
      = tree (fun g c => ∑ x : Fin 16, weights a1 (ix3 o g x) * table (ix2 x c))
          (fun k => border (fun r q => a0 (ix4 b ⟨(a2 (ix2 o k)).toNat, h2 _⟩ r q)) (h.val + (a4 (ix2 o k)).toNat) (w.val + (a3 (ix2 o k)).toNat)) := by
    intro h w
    rw [gate2_apply, gates1_apply, gates1_apply]
    simp only [coeffs_apply, fun k => gathered_apply a0 a2 a3 a4 b o k h w (h2 _) (h3 _) (h4 _)]
    rfl
  unfold result
  rw [pooled_apply]
  simp only [hcell]
  rfl

end Cert.ReferenceIdeal.Run

end
-- ==== Proof.Final.lean ====
/- The kernel's result array: every cell is the reference's, so the array is the reference's result of the same arguments. -/
module

public import proofs.«01_k».proof.Proof.Point
public import proofs.«01_k».proof.Proof.RefCell
public import proofs.«01_k».proof.Proof.HostIdeal
public import proofs.«01_k».proof.Proof.TableIdeal
public import Idealize.ShloMosaic.Lib.Pipeline.Covers

@[expose] public section

set_option maxRecDepth 16384

noncomputable section

namespace Cert.KernelIdeal.Block

open Cert.KernelIdeal Cert.KernelIdeal.Gen Cert.KernelIdeal.Body Cert.Cell
open Idealize.ShloMosaic Idealize.ShloMosaic.TcCoe Idealize.SL.Sem

/-- The complement of four complements' product is the pooling. -/
theorem square_complement (t : Fin 224 → Fin 224 → Ideal .f32) (i j : Fin 112) : square (fun h w => 1 - t h w) i j = pool t i j := rfl

/-- Four values listed one by one are the function that lists them. -/
theorem leaves_eq (f : Fin 4 → Ideal .f32) : ![f 0, f 1, f 2, f 3] = f := by
  funext k
  match k with
  | 0 => rfl
  | 1 => rfl
  | 2 => rfl
  | 3 => rfl

/-- The body's cell is the reference's, once the blocks are the planes that the channel words name, the coefficients are the
    reference's, and the table holds the three integer arguments. -/
theorem cell_eq (a0 : FVec Ideal S4x96x224x224 .f32) (a1 : FVec Ideal S96x3x16 .f32) (a2 a3 a4 : IVec S96x4 32)
    (h2 : ∀ y, (a2 y).toNat < 96) (h3 : ∀ y, (a3 y).toNat < 3) (h4 : ∀ y, (a4 y).toNat < 3)
    (x0 x1 x2 x3 : Vec Ideal S4x1x224x224 .f32) (x4 : Vec Ideal S1x1x12 .f32) (T : IVec S3x96x4 32) (hT : T = Table.words a2 a4 a3)
    (b : Fin 4) (o : Fin 96) (p q : Fin 112)
    (e0 : ∀ r q, x0 (ix4 b 0 r q) = a0 (ix4 b ⟨(a2 (ix2 o 0)).toNat, h2 _⟩ r q))
    (e1 : ∀ r q, x1 (ix4 b 0 r q) = a0 (ix4 b ⟨(a2 (ix2 o 1)).toNat, h2 _⟩ r q))
    (e2 : ∀ r q, x2 (ix4 b 0 r q) = a0 (ix4 b ⟨(a2 (ix2 o 2)).toNat, h2 _⟩ r q))
    (e3 : ∀ r q, x3 (ix4 b 0 r q) = a0 (ix4 b ⟨(a2 (ix2 o 3)).toNat, h2 _⟩ r q))
    (e4 : ∀ (g : Fin 3) (k : Fin 4), x4 (ix3 0 0 ⟨4 * g.val + k.val, by omega⟩)
      = ∑ x : Fin 16, Cert.ReferenceIdeal.Stage.weights (F := Ideal) a1 (ix3 o g x) * Cert.ReferenceIdeal.Stage.table (ix2 x k)) :
    square (fun h w => 1 - tree (fun g k => x4 (ix3 0 0 ⟨4 * g.val + k.val, by omega⟩))
          ![border (fun r q => x0 (ix4 b 0 r q)) (h.val + (T (ix3 1 o 0)).toNat) (w.val + (T (ix3 2 o 0)).toNat),
            border (fun r q => x1 (ix4 b 0 r q)) (h.val + (T (ix3 1 o 1)).toNat) (w.val + (T (ix3 2 o 1)).toNat),
            border (fun r q => x2 (ix4 b 0 r q)) (h.val + (T (ix3 1 o 2)).toNat) (w.val + (T (ix3 2 o 2)).toNat),
            border (fun r q => x3 (ix4 b 0 r q)) (h.val + (T (ix3 1 o 3)).toNat) (w.val + (T (ix3 2 o 3)).toNat)]) p q
      = Cert.ReferenceIdeal.Run.result a0 a1 a2 a3 a4 (ix4 b o p q) := by
  subst hT
  have row (k : Fin 4) : Table.words a2 a4 a3 (ix3 1 o k) = a4 (ix2 o k) := Table.words_apply a2 a4 a3 1 o k
  have column (k : Fin 4) : Table.words a2 a4 a3 (ix3 2 o k) = a3 (ix2 o k) := Table.words_apply a2 a4 a3 2 o k
  refine (square_complement (fun h w => tree _ _) p q).trans (Eq.trans ?_ (Cert.ReferenceIdeal.Run.result_apply a0 a1 a2 a3 a4 h2 h3 h4 b o p q).symm)
  refine congrArg (fun t => pool t p q) (funext fun h => funext fun w => ?_)
  simp only [row, column, e0, e1, e2, e3, e4]
  exact congrArg (tree _) (leaves_eq fun k => border (fun r q => a0 (ix4 b ⟨(a2 (ix2 o k)).toNat, h2 _⟩ r q)) (h.val + (a4 (ix2 o k)).toNat) (w.val + (a3 (ix2 o k)).toNat))

variable (m : (ℓ : Loc nD τ sig) → Buf (Elt Ideal) ℓ)

/-- The result's blocks, one for each channel, fill its array. -/
theorem covers (hO : Ok (F := Ideal) m) : ((cfgM m hO).win 7).Covers := by
  refine Pipeline.Window.covers_of_index_surj _ rfl (show ∀ a : Fin 4, 0 < (![4, 1, 112, 112] : Fin 4 → Nat) a by decide) fun β => ?_
  have r0 : (0 : Nat) < ((cfgM m hO).win 7).shape.rank := (by decide : 0 < 4)
  have r1 : (1 : Nat) < ((cfgM m hO).win 7).shape.rank := (by decide : 1 < 4)
  have r2 : (2 : Nat) < ((cfgM m hO).win 7).shape.rank := (by decide : 2 < 4)
  have r3 : (3 : Nat) < ((cfgM m hO).win 7).shape.rank := (by decide : 3 < 4)
  have n0 : (β ⟨0, r0⟩).val < (4 + 4 - 1) / 4 := (β ⟨0, r0⟩).isLt
  have n1 : (β ⟨1, r1⟩).val < (96 + 1 - 1) / 1 := (β ⟨1, r1⟩).isLt
  have n2 : (β ⟨2, r2⟩).val < (112 + 112 - 1) / 112 := (β ⟨2, r2⟩).isLt
  have n3 : (β ⟨3, r3⟩).val < (112 + 112 - 1) / 112 := (β ⟨3, r3⟩).isLt
  refine ⟨⟨(β ⟨1, r1⟩).val, lt_of_lt_of_eq n1 N_0.symm⟩, fun a => ?_⟩
  rw [index7 m hO]
  match a with
  | ⟨0, _⟩ => exact (Nat.lt_one_iff.1 n0).symm
  | ⟨1, _⟩ => rfl
  | ⟨2, _⟩ => exact (Nat.lt_one_iff.1 n2).symm
  | ⟨3, _⟩ => exact (Nat.lt_one_iff.1 n3).symm

/-- What a point leaves in its block is the reference's result there. -/
theorem outs_eq (hO : Ok (F := Ideal) m) (c : Dev nD) (t : Fin (cfgM m hO).N)
    (a0 : FVec Ideal S4x96x224x224 .f32) (a1 : FVec Ideal S96x3x16 .f32) (a2 a3 a4 : IVec S96x4 32)
    (g0 : m ((c : Thread nD τ).loc main_arg0) = a0) (g1 : m ((c : Thread nD τ).loc main_arg1) = a1)
    (g2 : m ((c : Thread nD τ).loc main_arg2) = a2) (g3 : m ((c : Thread nD τ).loc main_arg3) = a3) (g4 : m ((c : Thread nD τ).loc main_arg4) = a4)
    (h2 : ∀ y, (a2 y).toNat < 96) (h3 : ∀ y, (a3 y).toNat < 3) (h4 : ∀ y, (a4 y).toNat < 3)
    (y : S4x1x112x112.Idx) (b : Fin 4) (o : Fin 96) (p q : Fin 112)
    (hb : b.val = (y 0).val) (ho : o.val = t.val) (hp : p.val = (y 2).val) (hq : q.val = (y 3).val) :
    (show Vec Ideal S4x1x112x112 .f32 from outsAt0 m hO c t) y = Cert.ReferenceIdeal.Run.result a0 a1 a2 a3 a4 (ix4 b o p q) := by
  obtain rfl : c = 0 := Subsingleton.elim _ _
  have hT : (tbl m 0 : IVec S3x96x4 32) = Table.words a2 a4 a3 := by
    have e : (tbl m 0 : IVec S3x96x4 32) = (V m 0 main_v27 : IVec S3x96x4 32) := rfl
    rw [e, Table.V_table, g2, g3, g4]
  have chan (k : Fin 4) : (tbl m 0 : IVec S3x96x4 32) (ix3 0 o k) = a2 (ix2 o k) := by
    rw [hT, Table.words_apply]; rfl
  have row (k : Fin 4) : (tbl m 0 : IVec S3x96x4 32) (ix3 1 o k) = a4 (ix2 o k) := by
    rw [hT, Table.words_apply]; rfl
  have col (k : Fin 4) : (tbl m 0 : IVec S3x96x4 32) (ix3 2 o k) = a3 (ix2 o k) := by
    rw [hT, Table.words_apply]; rfl
  have hlt : ∀ (r : Fin 3) (k : Fin 4), r.val ≠ 0 → ((tbl m 0 : IVec S3x96x4 32) (ix3 r o k)).toNat < 3 := fun r k hr => by
    match r with
    | 0 => exact absurd rfl hr
    | 1 => rw [row]; exact h4 _
    | 2 => rw [col]; exact h3 _
  have hr : Picks (show Vec Ideal S224x112 .f32 from iblk m hO 0 5 t) := by
    rw [block5, Host.V_rows]; exact Host.evens_picks
  have hc : Picks (show Vec Ideal S224x112 .f32 from iblk m hO 0 6 t) := by
    rw [block6, Host.V_columns]; exact Host.evens_picks
  have image (b ch r q) : (V m 0 main_arg0 : Vec Ideal S4x96x224x224 .f32) (ix4 b ch r q) = a0 (ix4 b ch r q) := by
    rw [Host.V_image, g0]
  refine (out_apply 0 (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t)
    (iblk m hO 0 0 t) (iblk m hO 0 1 t) (iblk m hO 0 2 t) (iblk m hO 0 3 t) (iblk m hO 0 4 t) (iblk m hO 0 5 t) (iblk m hO 0 6 t) (tbl m 0)
    (tbl m 0) rfl o ((coord t).trans ho.symm) hlt hr hc y b p q hb hp hq).trans ?_
  have planes (r q : Fin 224) := blocks m hO 0 t b r q o ho (fun k => ⟨(a2 (ix2 o k)).toNat, h2 _⟩) fun k => (congrArg BitVec.toNat (chan k)).symm
  refine cell_eq a0 a1 a2 a3 a4 h2 h3 h4 _ _ _ _ _ _ hT b o p q
    (fun r q => (planes r q).1.trans (image _ _ _ _)) (fun r q => (planes r q).2.1.trans (image _ _ _ _))
    (fun r q => (planes r q).2.2.1.trans (image _ _ _ _)) (fun r q => (planes r q).2.2.2.trans (image _ _ _ _))
    (fun g k => (block4 m hO 0 t _ o ho).trans ?_)
  rw [Host.V_coeffs, g1]
  exact Host.coeffs_apply _ o g k

/-- The result array, after the run. -/
theorem final (hO : Ok (F := Ideal) m) (c : Dev nD)
    (a0 : FVec Ideal S4x96x224x224 .f32) (a1 : FVec Ideal S96x3x16 .f32) (a2 a3 a4 : IVec S96x4 32)
    (g0 : m ((c : Thread nD τ).loc main_arg0) = a0) (g1 : m ((c : Thread nD τ).loc main_arg1) = a1)
    (g2 : m ((c : Thread nD τ).loc main_arg2) = a2) (g3 : m ((c : Thread nD τ).loc main_arg3) = a3) (g4 : m ((c : Thread nD τ).loc main_arg4) = a4)
    (h2 : ∀ y, (a2 y).toNat < 96) (h3 : ∀ y, (a3 y).toNat < 3) (h4 : ∀ y, (a4 y).toNat < 3) :
    (dats m hO 0 c).arrAt 7 (Pipeline.pin pcfgs (fun _ => adm m hO) 0).N = Cert.ReferenceIdeal.Run.result a0 a1 a2 a3 a4 := by
  refine (dats m hO 0 c).arrAt_eq_of_covers 7 _ (covers m hO) fun t hf y => ?_
  blk_simp
  rw [after0_7]
  let z : S4x1x112x112.Idx := y
  refine (outs_eq m hO c t a0 a1 a2 a3 a4 g0 g1 g2 g3 g4 h2 h3 h4 z (z 0) ⟨t.val, lt_of_lt_of_eq t.isLt N_0⟩ (z 2) (z 3) rfl rfl rfl rfl).trans ?_
  refine congrArg (Cert.ReferenceIdeal.Run.result a0 a1 a2 a3 a4) (funext fun a => Fin.ext ?_)
  have e := index7 m hO t
  have r1 : (1 : Nat) < (((cfgM m hO).win 7).xblock ((cfgM m hO).grid.coords t)).rank := (by decide : 1 < 4)
  have hy1 : (y ⟨1, r1⟩).val = 0 := Nat.lt_one_iff.1 (z 1).isLt
  match a with
  | ⟨0, _⟩ => (blk_simp [e] <;> simp) <;> rfl
  | ⟨1, _⟩ => (blk_simp [e] <;> simp [hy1]) <;> exact hy1
  | ⟨2, _⟩ => (blk_simp [e] <;> simp) <;> rfl
  | ⟨3, _⟩ => (blk_simp [e] <;> simp) <;> rfl

end Cert.KernelIdeal.Block

end
-- ==== Proof.RefFrame.lean ====
/- The reference's frame: it is a line of host operations, so every execution ends, and the arguments end unchanged. -/
module

public import proofs.«01_k».proof.Defs
public import proofs.«01_k».proof.Proof.Gen.ReferenceIdeal
public import proofs.«01_k».proof.Proof.Gen.Pre_in_range
public import Idealize.ShloMosaic.Lib.Claim
public import Idealize.ShloMosaic.Lib.Quiescent

@[expose] public section

set_option maxRecDepth 16384

noncomputable section

namespace Cert.ReferenceIdeal.Run

open Cert.ReferenceIdeal Cert.ReferenceIdeal.Gen
open Idealize.ShloMosaic Idealize.ShloMosaic.TcCoe Idealize.SL.Sem

set_option maxHeartbeats 1600000 in
/-- The reference's frame, with no precondition. -/
theorem frame : Cert.quiescent_ReferenceIdeal := by
  intro m g _
  hlo_run
  · exact fun _ => ⟨trivial, trivial, trivial, trivial, trivial⟩
  · exact sem_eq_zero_of_no_sems rfl _

/-- The same under the range of the integer arguments, which it does not use. -/
theorem frame_in_range : Cert.quiescent_ReferenceIdeal_pre_in_range := fun m g _ => frame m g trivial

end Cert.ReferenceIdeal.Run

end
-- ==== Proof.Algebraic.lean ====
/- Over the extended reals, and with the integer arguments in range, the kernel and the reference end with the same result. -/
module

public import proofs.«01_k».proof.Proof.Final
public import proofs.«01_k».proof.Proof.RefRun
public import proofs.«01_k».proof.Proof.TableIdeal
public import proofs.«01_k».proof.Proof.RefFrame

@[expose] public section

set_option maxRecDepth 16384

noncomputable section

namespace Cert.KernelIdeal.Block

open Cert.KernelIdeal Cert.KernelIdeal.Gen
open Idealize.ShloMosaic Idealize.ShloMosaic.TcCoe Idealize.SL.Sem

/-- The kernel's run: its result array ends with the reference's result of the kernel's arguments. -/
theorem run (m : (ℓ : Loc nD τ sig) → Buf (Elt Ideal) ℓ) (ρ : Dev nD → PrngReg) (h : Cert.Pre_KernelIdeal_in_range m) :
    θ_run (defs (F := Ideal)) (onTc (τ := τ) (main (F := Ideal))) ⟨m, fun _ => 0, ρ⟩ (fun r => ∀ c : Dev nD,
      r.2.mem ((c.tc : Thread nD τ).loc main_v48)
        = Cert.ReferenceIdeal.Run.result (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))) := by
  have hO : Ok (F := Ideal) m := Table.ok_of_lt m fun y => (Table.in_range_lt m h 0 y).1
  exact θ_run_mono (run_main m ρ hO) fun r hr c => ((hr c).1 7).trans
    (final m hO c _ _ _ _ _ rfl rfl rfl rfl rfl (fun y => (Table.in_range_lt m h c y).1) (fun y => (Table.in_range_lt m h c y).2.1)
      fun y => (Table.in_range_lt m h c y).2.2)

/-- The two programs end with the same result. -/
theorem algebraic : Cert.algebraic_KernelIdeal_ReferenceIdeal_pre_in_range := by
  intro m g m' g' hpre hagree
  have hO : Ok (F := Ideal) m := Table.ok_of_lt m fun y => (Table.in_range_lt m hpre 0 y).1
  refine ⟨fun c => Cert.ReferenceIdeal.Run.result (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)), ?_, ?_⟩
  · exact θ_run_mono (θ_run_and (run m g hpre) (unchanged m g hO)) fun r hr c => ⟨hr.1 c, hr.2 c⟩
  · refine θ_run_mono (θ_run_and (Cert.ReferenceIdeal.Run.run (F := Ideal) m' g') (Cert.ReferenceIdeal.Run.frame m' g' trivial)) fun r hr c => ⟨(hr.1 c).trans ?_, hr.2.1 c⟩
    obtain ⟨e0, e1, e2, e3, e4⟩ := hagree c
    rw [e0, e1, e2, e3, e4]

end Cert.KernelIdeal.Block

end
-- ==== Proof.lean ====
/- The claim `Cert.Claim`, put together: the three frames, the kernel's ideal reading, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.Pre_channels_in_range
public import proofs.«01_k».proof.Proof.TableKernel
public import proofs.«01_k».proof.Proof.Algebraic
public import Idealize.ShloMosaic.Adequacy
public import Idealize.ShloMosaic.Init

@[expose] public section

noncomputable section

namespace Cert.Proof

open Idealize.ShloMosaic Idealize.SL.Sem

/-- The claims of the statement, each with its proof. -/
theorem claim : Cert.Claim :=
  ⟨Cert.Kernel.Gen.facts, Cert.KernelIdeal.Gen.facts, Cert.ReferenceIdeal.Gen.facts, Cert.Pre_channels_in_range.Gen.facts, Cert.Pre_in_range.Gen.facts,
    fun m g h => Cert.Kernel.Gen.frame m g (Cert.Kernel.Table.ok_of_lt m fun y => Cert.Kernel.Table.channel_lt m h 0 y),
    fun m g h => Cert.KernelIdeal.Gen.frame m g (Cert.KernelIdeal.Table.ok_of_lt m fun y => Cert.KernelIdeal.Table.channel_lt m h 0 y),
    fun m g h => Cert.KernelIdeal.Gen.frame m g (Cert.KernelIdeal.Table.ok_of_lt m fun y => (Cert.KernelIdeal.Table.in_range_lt m h 0 y).1),
    Cert.ReferenceIdeal.Run.frame,
    Cert.ReferenceIdeal.Run.frame_in_range,
    trivial,
    Cert.KernelIdeal.Block.algebraic⟩

end Cert.Proof

end
